-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v14)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_v29) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1536 : Shape := ⟨3, ![16, 2048, 1536]⟩
abbrev S8960x1536 : Shape := ⟨2, ![8960, 1536]⟩
abbrev S8960 : Shape := ⟨1, ![8960]⟩
abbrev S32x1536 : Shape := ⟨2, ![32, 1536]⟩
abbrev S8960x32 : Shape := ⟨2, ![8960, 32]⟩
abbrev S16x2048x8960 : Shape := ⟨3, ![16, 2048, 8960]⟩
abbrev S16x2048 : Shape := ⟨2, ![16, 2048]⟩
abbrev S8960x1 : Shape := ⟨2, ![8960, 1]⟩
abbrev S1x8960 : Shape := ⟨2, ![1, 8960]⟩
abbrev S1280x1536 : Shape := ⟨2, ![1280, 1536]⟩
abbrev S1280x1 : Shape := ⟨2, ![1280, 1]⟩
abbrev S1280x32 : Shape := ⟨2, ![1280, 32]⟩
abbrev S1x1280 : Shape := ⟨2, ![1, 1280]⟩
abbrev S1280x128 : Shape := ⟨2, ![1280, 128]⟩
abbrev S128x1280 : Shape := ⟨2, ![128, 1280]⟩
abbrev S1280 : Shape := ⟨1, ![1280]⟩
abbrev S32768x1536 : Shape := ⟨2, ![32768, 1536]⟩
abbrev S32x8960 : Shape := ⟨2, ![32, 8960]⟩
abbrev S32768x8960 : Shape := ⟨2, ![32768, 8960]⟩
abbrev S32768x1 : Shape := ⟨2, ![32768, 1]⟩
abbrev S32768x32 : Shape := ⟨2, ![32768, 32]⟩
abbrev S512x1536 : Shape := ⟨2, ![512, 1536]⟩
abbrev S512x1280 : Shape := ⟨2, ![512, 1280]⟩
abbrev S512x1 : Shape := ⟨2, ![512, 1]⟩
abbrev S512x32 : Shape := ⟨2, ![512, 32]⟩
abbrev S32x512 : Shape := ⟨2, ![32, 512]⟩
abbrev S32x1280 : Shape := ⟨2, ![32, 1280]⟩
abbrev S16x2048x32 : Shape := ⟨3, ![16, 2048, 32]⟩

abbrev nBuf : Space → Nat
  | .hbm => 31
  | .vmem => 42
  | .smem => 0
  | _ => 0

abbrev bufTy : (tb : Table) → Fin (tcTables nBuf tb) → BufTy
  | .hbm, ⟨0, _⟩ => ⟨S16x2048x1536, .bf16⟩
  | .hbm, ⟨1, _⟩ => ⟨S8960x1536, .fp8e4m3⟩
  | .hbm, ⟨2, _⟩ => ⟨S8960, .f32⟩
  | .hbm, ⟨3, _⟩ => ⟨S32x1536, .bf16⟩
  | .hbm, ⟨4, _⟩ => ⟨S8960x32, .bf16⟩
  | .hbm, ⟨5, _⟩ => ⟨S8960, .f32⟩
  | .hbm, ⟨6, _⟩ => ⟨S16x2048x8960, .fp8e5m2⟩
  | .hbm, ⟨7, _⟩ => ⟨S16x2048, .f32⟩
  | .hbm, ⟨8, _⟩ => ⟨S8960x1, .f32⟩
  | .hbm, ⟨9, _⟩ => ⟨S1x8960, .f32⟩
  | .hbm, ⟨10, _⟩ => ⟨S1x8960, .f32⟩
  | .hbm, ⟨11, _⟩ => ⟨S1x8960, .f32⟩
  | .hbm, ⟨12, _⟩ => ⟨S32768x1536, .bf16⟩
  | .hbm, ⟨13, _⟩ => ⟨S1x8960, .f32⟩
  | .hbm, ⟨14, _⟩ => ⟨S32x8960, .bf16⟩
  | .hbm, ⟨15, _⟩ => ⟨S32768x8960, .fp8e5m2⟩
  | .hbm, ⟨16, _⟩ => ⟨S32768x1, .f32⟩
  | .hbm, ⟨17, _⟩ => ⟨S32768x1536, .bf16⟩
  | .hbm, ⟨18, _⟩ => ⟨S32x1536, .bf16⟩
  | .hbm, ⟨19, _⟩ => ⟨S32x8960, .f32⟩
  | .hbm, ⟨20, _⟩ => ⟨S1x8960, .f32⟩
  | .hbm, ⟨21, _⟩ => ⟨S32768x8960, .bf16⟩
  | .hbm, ⟨22, _⟩ => ⟨S32768x32, .bf16⟩
  | .hbm, ⟨23, _⟩ => ⟨S32768x32, .bf16⟩
  | .hbm, ⟨24, _⟩ => ⟨S16x2048x1536, .bf16⟩
  | .hbm, ⟨25, _⟩ => ⟨S8960x32, .f32⟩
  | .hbm, ⟨26, _⟩ => ⟨S8960x32, .bf16⟩
  | .hbm, ⟨27, _⟩ => ⟨S8960, .f32⟩
  | .hbm, ⟨28, _⟩ => ⟨S16x2048x8960, .bf16⟩
  | .hbm, ⟨29, _⟩ => ⟨S16x2048x32, .bf16⟩
  | .hbm, ⟨30, _⟩ => ⟨S16x2048x32, .bf16⟩
  | .local _ .vmem, ⟨0, _⟩ => ⟨S1280x1536, .fp8e4m3⟩
  | .local _ .vmem, ⟨1, _⟩ => ⟨S1280x1536, .fp8e4m3⟩
  | .local _ .vmem, ⟨2, _⟩ => ⟨S1280x1, .f32⟩
  | .local _ .vmem, ⟨3, _⟩ => ⟨S1280x1, .f32⟩
  | .local _ .vmem, ⟨4, _⟩ => ⟨S32x1536, .bf16⟩
  | .local _ .vmem, ⟨5, _⟩ => ⟨S1280x32, .bf16⟩
  | .local _ .vmem, ⟨6, _⟩ => ⟨S1280x32, .bf16⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1x1280, .f32⟩
  | .local _ .vmem, ⟨11, _⟩ => ⟨S1x1280, .f32⟩
  | .local _ .vmem, ⟨12, _⟩ => ⟨S1x1280, .f32⟩
  | .local _ .vmem, ⟨13, _⟩ => ⟨S512x1536, .bf16⟩
  | .local _ .vmem, ⟨14, _⟩ => ⟨S512x1536, .bf16⟩
  | .local _ .vmem, ⟨15, _⟩ => ⟨S8960x1536, .fp8e4m3⟩
  | .local _ .vmem, ⟨16, _⟩ => ⟨S1x8960, .f32⟩
  | .local _ .vmem, ⟨17, _⟩ => ⟨S32x1536, .bf16⟩
  | .local _ .vmem, ⟨18, _⟩ => ⟨S8960x32, .bf16⟩
  | .local _ .vmem, ⟨19, _⟩ => ⟨S32x8960, .bf16⟩
  | .local _ .vmem, ⟨20, _⟩ => ⟨S1x8960, .f32⟩
  | .local _ .vmem, ⟨21, _⟩ => ⟨S1x8960, .f32⟩
  | .local _ .vmem, ⟨22, _⟩ => ⟨S512x1280, .fp8e5m2⟩
  | .local _ .vmem, ⟨23, _⟩ => ⟨S512x1280, .fp8e5m2⟩
  | .local _ .vmem, ⟨24, _⟩ => ⟨S512x1, .f32⟩
  | .local _ .vmem, ⟨25, _⟩ => ⟨S512x1, .f32⟩
  | .local _ .vmem, ⟨26, _⟩ => ⟨S512x1536, .bf16⟩
  | .local _ .vmem, ⟨27, _⟩ => ⟨S512x1536, .bf16⟩
  | .local _ .vmem, ⟨28, _⟩ => ⟨S32x1536, .bf16⟩
  | .local _ .vmem, ⟨29, _⟩ => ⟨S32x8960, .f32⟩
  | .local _ .vmem, ⟨30, _⟩ => ⟨S1x8960, .f32⟩
  | .local _ .vmem, ⟨31, _⟩ => ⟨S512x1280, .bf16⟩
  | .local _ .vmem, ⟨32, _⟩ => ⟨S512x1280, .bf16⟩
  | .local _ .vmem, ⟨33, _⟩ => ⟨S512x32, .bf16⟩
  | .local _ .vmem, ⟨34, _⟩ => ⟨S512x32, .bf16⟩
  | .local _ .vmem, ⟨35, _⟩ => ⟨S512x32, .bf16⟩
  | .local _ .vmem, ⟨36, _⟩ => ⟨S512x32, .bf16⟩
  | .local _ .vmem, ⟨37, _⟩ => ⟨S512x32, .bf16⟩
  | .local _ .vmem, ⟨38, _⟩ => ⟨S32x512, .bf16⟩
  | .local _ .vmem, ⟨39, _⟩ => ⟨S512x1536, .f32⟩
  | .local _ .vmem, ⟨40, _⟩ => ⟨S32x512, .f32⟩
  | .local _ .vmem, ⟨41, _⟩ => ⟨S32x1536, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg14_1 : Ref sig .tc := ⟨.vmem, 32, rfl⟩
abbrev cc1_stg15_0 : Ref sig .tc := ⟨.vmem, 33, rfl⟩
abbrev cc1_stg15_1 : Ref sig .tc := ⟨.vmem, 34, rfl⟩
abbrev cc1_stg16_0 : Ref sig .tc := ⟨.vmem, 35, rfl⟩
abbrev cc1_stg16_1 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc1_scratch4 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem14_1 : DmaSem sig := 32
abbrev cc1_sem15_0 : DmaSem sig := 33
abbrev cc1_sem15_1 : DmaSem sig := 34
abbrev cc1_sem16_0 : DmaSem sig := 35
abbrev cc1_sem16_1 : DmaSem sig := 36

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![64, 7], ![false, false]⟩

def k1_mult1 (i : grid1.Coords) : BitVec 32 :=
  let arg1 : BitVec 32 := BitVec.ofNat 32 (i 1).val
  let c1280_i32 : BitVec 32 := 1280#32
  let v0 : BitVec 32 := Scalar.muli arg1 c1280_i32
  v0
def k1_off1 (i : grid1.Coords) : Fin 2 → Nat :=
  let arg1 : BitVec 32 := BitVec.ofNat 32 (i 1).val
  let c1280_i32 : BitVec 32 := 1280#32
  let v0 : BitVec 32 := Scalar.muli arg1 c1280_i32
  let v1 : BitVec 32 := v0
  let v10 : Index := Scalar.indexCast v1
  let c0 : Index := 0#32
  ![v10.toNat, 0]
def k1_off2 (i : grid1.Coords) : Fin 2 → Nat :=
  let c0_4 : Index := 0#32
  let arg1 : BitVec 32 := BitVec.ofNat 32 (i 1).val
  let c1280_i32 : BitVec 32 := 1280#32
  let v0 : BitVec 32 := Scalar.muli arg1 c1280_i32
  let v1 : BitVec 32 := v0
  let v13 : Index := Scalar.indexCast v1
  ![0, v13.toNat]
def k1_off3 (i : grid1.Coords) : Fin 2 → Nat :=
  let arg1 : BitVec 32 := BitVec.ofNat 32 (i 1).val
  let c1280_i32 : BitVec 32 := 1280#32
  let v0 : BitVec 32 := Scalar.muli arg1 c1280_i32
  let v1 : BitVec 32 := v0
  let v22 : Index := Scalar.indexCast v1
  let c0_9 : Index := 0#32
  ![v22.toNat, 0]
def k1_off4 (i : grid1.Coords) : Fin 2 → Nat :=
  let c0_28 : Index := 0#32
  let arg1 : BitVec 32 := BitVec.ofNat 32 (i 1).val
  let c1280_i32 : BitVec 32 := 1280#32
  let v0 : BitVec 32 := Scalar.muli arg1 c1280_i32
  let v1 : BitVec 32 := v0
  let v60 : Index := Scalar.indexCast v1
  ![0, v60.toNat]
def k1_cond3 (i : grid1.Coords) : BitVec 1 :=
  let arg1 : BitVec 32 := BitVec.ofNat 32 (i 1).val
  let c6_i32 : BitVec 32 := 6#32
  let v76 : BitVec 1 := Scalar.cmpi .eq arg1 c6_i32
  let v77 : BitVec 32 := Scalar.extui v76
  let c0_i32_37 : BitVec 32 := 0#32
  let v78 : BitVec 1 := Scalar.cmpi .ne v77 c0_i32_37
  v78

def k1_cond4 (i : grid1.Coords) : BitVec 1 :=
  let arg0 : BitVec 32 := BitVec.ofNat 32 (i 0).val
  let c63_i32 : BitVec 32 := 63#32
  let v79 : BitVec 1 := Scalar.cmpi .eq arg0 c63_i32
  let arg1 : BitVec 32 := BitVec.ofNat 32 (i 1).val
  let c6_i32_38 : BitVec 32 := 6#32
  let v80 : BitVec 1 := Scalar.cmpi .eq arg1 c6_i32_38
  let v81 : BitVec 1 := Scalar.andi v79 v80
  let v82 : BitVec 32 := Scalar.extui v81
  let c0_i32_39 : BitVec 32 := 0#32
  let v83 : BitVec 1 := Scalar.cmpi .ne v82 c0_i32_39
  v83

def k1_cond2 (i : grid1.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8960x1536 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x8960 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8960x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x8960 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8960 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x8960 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x1280 .fp8e5m2 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x1536 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S32x1536 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S32x8960 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x8960 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S512x1280 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S512x32 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S512x32 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]
-- ==== ReferenceIdeal.lean ====
abbrev S16x2048x1536 : Shape := ⟨3, ![16, 2048, 1536]⟩
abbrev S8960x1536 : Shape := ⟨2, ![8960, 1536]⟩
abbrev S8960 : Shape := ⟨1, ![8960]⟩
abbrev S32x1536 : Shape := ⟨2, ![32, 1536]⟩
abbrev S8960x32 : Shape := ⟨2, ![8960, 32]⟩
abbrev S16x2048x8960 : Shape := ⟨3, ![16, 2048, 8960]⟩
abbrev S16x2048 : Shape := ⟨2, ![16, 2048]⟩
abbrev S8960x1 : Shape := ⟨2, ![8960, 1]⟩
abbrev S_ : Shape := ⟨0, ![]⟩
abbrev S16x2048x32 : Shape := ⟨3, ![16, 2048, 32]⟩
abbrev S1x1x8960 : Shape := ⟨3, ![1, 1, 8960]⟩
abbrev S16x2048x1 : Shape := ⟨3, ![16, 2048, 1]⟩

abbrev nBuf : Space → Nat
  | .hbm => 55
  | .vmem => 5
  | .smem => 0
  | _ => 0

abbrev bufTy : (tb : Table) → Fin (tcTables nBuf tb) → BufTy
  | .hbm, ⟨0, _⟩ => ⟨S16x2048x1536, .bf16⟩
  | .hbm, ⟨1, _⟩ => ⟨S8960x1536, .fp8e4m3⟩
  | .hbm, ⟨2, _⟩ => ⟨S8960, .f32⟩
  | .hbm, ⟨3, _⟩ => ⟨S32x1536, .bf16⟩
  | .hbm, ⟨4, _⟩ => ⟨S8960x32, .bf16⟩
  | .hbm, ⟨5, _⟩ => ⟨S8960, .f32⟩
  | .hbm, ⟨6, _⟩ => ⟨S16x2048x8960, .fp8e5m2⟩
  | .hbm, ⟨7, _⟩ => ⟨S16x2048, .f32⟩
  | .hbm, ⟨8, _⟩ => ⟨S8960x1536, .f32⟩
  | .hbm, ⟨9, _⟩ => ⟨S8960x1536, .bf16⟩
  | .hbm, ⟨10, _⟩ => ⟨S16x2048x8960, .f32⟩
  | .hbm, ⟨11, _⟩ => ⟨S8960x1, .f32⟩
  | .hbm, ⟨12, _⟩ => ⟨S8960x1536, .f32⟩
  | .hbm, ⟨13, _⟩ => ⟨S8960x1536, .f32⟩
  | .hbm, ⟨14, _⟩ => ⟨S8960x1536, .f32⟩
  | .hbm, ⟨15, _⟩ => ⟨S8960x1536, .f32⟩
  | .hbm, ⟨16, _⟩ => ⟨S8960x1536, .f32⟩
  | .hbm, ⟨17, _⟩ => ⟨S_, .f32⟩
  | .hbm, ⟨18, _⟩ => ⟨S8960, .f32⟩
  | .hbm, ⟨19, _⟩ => ⟨S8960, .f32⟩
  | .hbm, ⟨20, _⟩ => ⟨S8960, .f32⟩
  | .hbm, ⟨21, _⟩ => ⟨S16x2048x32, .f32⟩
  | .hbm, ⟨22, _⟩ => ⟨S16x2048x32, .bf16⟩
  | .hbm, ⟨23, _⟩ => ⟨S1x1x8960, .f32⟩
  | .hbm, ⟨24, _⟩ => ⟨S16x2048x8960, .f32⟩
  | .hbm, ⟨25, _⟩ => ⟨S16x2048x8960, .f32⟩
  | .hbm, ⟨26, _⟩ => ⟨S16x2048x8960, .f32⟩
  | .hbm, ⟨27, _⟩ => ⟨S16x2048x8960, .f32⟩
  | .hbm, ⟨28, _⟩ => ⟨S16x2048x8960, .f32⟩
  | .hbm, ⟨29, _⟩ => ⟨S16x2048x1, .f32⟩
  | .hbm, ⟨30, _⟩ => ⟨S16x2048x8960, .f32⟩
  | .hbm, ⟨31, _⟩ => ⟨S16x2048x8960, .f32⟩
  | .hbm, ⟨32, _⟩ => ⟨S16x2048x8960, .f32⟩
  | .hbm, ⟨33, _⟩ => ⟨S_, .f32⟩
  | .hbm, ⟨34, _⟩ => ⟨S8960, .f32⟩
  | .hbm, ⟨35, _⟩ => ⟨S8960, .f32⟩
  | .hbm, ⟨36, _⟩ => ⟨S1x1x8960, .f32⟩
  | .hbm, ⟨37, _⟩ => ⟨S16x2048x8960, .f32⟩
  | .hbm, ⟨38, _⟩ => ⟨S16x2048x8960, .f32⟩
  | .hbm, ⟨39, _⟩ => ⟨S16x2048x8960, .bf16⟩
  | .hbm, ⟨40, _⟩ => ⟨S16x2048x32, .f32⟩
  | .hbm, ⟨41, _⟩ => ⟨S16x2048x32, .bf16⟩
  | .hbm, ⟨42, _⟩ => ⟨S8960, .bf16⟩
  | .hbm, ⟨43, _⟩ => ⟨S1x1x8960, .bf16⟩
  | .hbm, ⟨44, _⟩ => ⟨S16x2048x8960, .bf16⟩
  | .hbm, ⟨45, _⟩ => ⟨S16x2048x8960, .bf16⟩
  | .hbm, ⟨46, _⟩ => ⟨S16x2048x1536, .f32⟩
  | .hbm, ⟨47, _⟩ => ⟨S16x2048x1536, .f32⟩
  | .hbm, ⟨48, _⟩ => ⟨S16x2048x1536, .f32⟩
  | .hbm, ⟨49, _⟩ => ⟨S16x2048x1536, .bf16⟩
  | .hbm, ⟨50, _⟩ => ⟨S32x1536, .f32⟩
  | .hbm, ⟨51, _⟩ => ⟨S32x1536, .bf16⟩
  | .hbm, ⟨52, _⟩ => ⟨S8960x32, .f32⟩
  | .hbm, ⟨53, _⟩ => ⟨S8960x32, .bf16⟩
  | .hbm, ⟨54, _⟩ => ⟨S16x2048x8960, .bf16⟩
  | .local _ .vmem, ⟨0, _⟩ => ⟨S8960x1536, .fp8e4m3⟩
  | .local _ .vmem, ⟨1, _⟩ => ⟨S16x2048x8960, .fp8e5m2⟩
  | .local _ .vmem, ⟨2, _⟩ => ⟨S8960x1536, .f32⟩
  | .local _ .vmem, ⟨3, _⟩ => ⟨S8960x1536, .bf16⟩
  | .local _ .vmem, ⟨4, _⟩ => ⟨S16x2048x8960, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8960x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x8960 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Blocks.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.Value
public import Idealize.ShloMosaic.Lib.WholeRead
public import Idealize.ShloMosaic.Lib.Ring
public import Idealize.ShloMosaic.Lib.Tactic
public import Idealize.ShloMosaic.Lib.WordCmp

/-! # The backward kernel's body, as five blocks and their triples

The body of the second call is a straight stretch between four conditional blocks. Each is a definition here
(`blk1`, `blk2`, `blkM`, `blk3`, `blk4`), the printed body is their sequence (`body_eq_blocks`), and each has one triple
at whole staging memrefs: what the block leaves in the buffers it writes is a function (`if` on the block's condition)
of what it found. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional: the grid's first point. -/
abbrev cond1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-! ## The blocks -/

/-- Conditional block 1: zero the accumulators of the whole run. -/
def blk1 (i : grid1.Coords) (arg14 : Memref sig .tc .vmem S32x8960 .f32) (harg14 : arg14.IsWhole) (arg15 : Memref sig .tc .vmem S1x8960 .f32) (harg15 : arg15.IsWhole) (arg23 : Memref sig .tc .vmem S32x1536 .f32) (harg23 : arg23.IsWhole) : Prog (TpuEff nD τ sig (Elt F) Λ₀ .tc) PUnit := do
  if _h : (Scalar.cmpi .ne (Scalar.extui (Scalar.andi (Scalar.cmpi .eq (BitVec.ofNat 32 (i 0).val) 0#32) (Scalar.cmpi .eq (BitVec.ofNat 32 (i 1).val) 0#32))) 0#32) = 1#1 then do
    let v85 : Vec F S32x1536 .f32 ← Prog.lift (.load arg23 (Rect.unit (s := S32x1536) ![0, 0] S32x1536.size inb_S32x1536_S32x1536_0_0).toLoadRect (View.loadsAt_vmem h_S32x1536))
    Prog.lift (.store arg23 (Rect.unit (s := S32x1536) ![0, 0] S32x1536.size inb_S32x1536_S32x1536_0_0) (k1_pay7 (F := F)) Finset.univ (View.stores_vmem_bits_univ h_S32x1536 rfl) (.inl rfl))
    let v89 : Vec F S32x8960 .f32 ← Prog.lift (.load arg14 (Rect.unit (s := S32x8960) ![0, 0] S32x8960.size inb_S32x8960_S32x8960_0_0).toLoadRect (View.loadsAt_vmem h_S32x8960))
    Prog.lift (.store arg14 (Rect.unit (s := S32x8960) ![0, 0] S32x8960.size inb_S32x8960_S32x8960_0_0) (k1_pay8 (F := F)) Finset.univ (View.stores_vmem_bits_univ h_S32x8960 rfl) (.inl rfl))
    let v91 : Vec F S1x8960 .f32 ← Prog.lift (.load arg15 (Rect.unit (s := S1x8960) ![0, 0] S1x8960.size inb_S1x8960_S1x8960_0_0).toLoadRect (View.loadsAt_vmem h_S1x8960))
    Prog.lift (.store arg15 (Rect.unit (s := S1x8960) ![0, 0] S1x8960.size inb_S1x8960_S1x8960_0_0) (k1_pay9 (F := F)) Finset.univ (View.stores_vmem_bits_univ h_S1x8960 rfl) (.inl rfl))
    pure ⟨⟩
  else do
    pure ⟨⟩

/-- Conditional block 2: `x·laᵀ` of the token block and the zeroed accumulators of the token block. -/
def blk2 (i : grid1.Coords) (arg2 : Memref sig .tc .vmem S512x1536 .bf16) (harg2 : arg2.IsWhole) (arg5 : Memref sig .tc .vmem S32x1536 .bf16) (harg5 : arg5.IsWhole) (arg17 : Memref sig .tc .vmem S512x32 .bf16) (harg17 : arg17.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) : Prog (TpuEff nD τ sig (Elt F) Λ₀ .tc) PUnit := do
  if _h : k1_cond2 i = 1#1 then do
    let v84 : Vec F S512x1536 .bf16 ← Prog.lift (.load arg2 (Rect.unit (s := S512x1536) ![0, 0] S512x1536.size inb_S512x1536_S512x1536_0_0).toLoadRect (View.loadsAt_vmem h_S512x1536))
    let v86 : Vec F S32x1536 .bf16 ← Prog.lift (.load arg5 (Rect.unit (s := S32x1536) ![0, 0] S32x1536.size inb_S32x1536_S32x1536_0_0).toLoadRect (View.loadsAt_vmem h_S32x1536))
    let v89 : Vec F S512x32 .bf16 ← Prog.lift (.load arg19 (Rect.unit (s := S512x32) ![0, 0] S512x32.size inb_S512x32_S512x32_0_0).toLoadRect (View.loadsAt_vmem h_S512x32))
    Prog.lift (.store arg19 (Rect.unit (s := S512x32) ![0, 0] S512x32.size inb_S512x32_S512x32_0_0) (k1_pay11 v84 v86) Finset.univ (View.stores_vmem h_S512x32 (harg19.storeExact_slice rfl _ packedbf16_S512x32_S512x32_0_0) (fun _ => rfl)) (.inl rfl))
    let v94 : Vec F S32x512 .bf16 ← Prog.lift (.load arg20 (Rect.unit (s := S32x512) ![0, 0] S32x512.size inb_S32x512_S32x512_0_0).toLoadRect (View.loadsAt_vmem h_S32x512))
    Prog.lift (.store arg20 (Rect.unit (s := S32x512) ![0, 0] S32x512.size inb_S32x512_S32x512_0_0) (k1_pay12 v84 v86) Finset.univ (View.stores_vmem h_S32x512 (harg20.storeExact_slice rfl _ packedbf16_S32x512_S32x512_0_0) (fun _ => rfl)) (.inl rfl))
    let v98 : Vec F S512x32 .bf16 ← Prog.lift (.load arg17 (Rect.unit (s := S512x32) ![0, 0] S512x32.size inb_S512x32_S512x32_0_0).toLoadRect (View.loadsAt_vmem h_S512x32))
    Prog.lift (.store arg17 (Rect.unit (s := S512x32) ![0, 0] S512x32.size inb_S512x32_S512x32_0_0) (k1_pay13 v84 v86) Finset.univ (View.stores_vmem h_S512x32 (harg17.storeExact_slice rfl _ packedbf16_S512x32_S512x32_0_0) (fun _ => rfl)) (.inl rfl))
    let v100 : Vec F S512x1536 .f32 ← Prog.lift (.load arg21 (Rect.unit (s := S512x1536) ![0, 0] S512x1536.size inb_S512x1536_S512x1536_0_0).toLoadRect (View.loadsAt_vmem h_S512x1536))
    Prog.lift (.store arg21 (Rect.unit (s := S512x1536) ![0, 0] S512x1536.size inb_S512x1536_S512x1536_0_0) (k1_pay14 (F := F)) Finset.univ (View.stores_vmem_bits_univ h_S512x1536 rfl) (.inl rfl))
    let v104 : Vec F S32x512 .f32 ← Prog.lift (.load arg22 (Rect.unit (s := S32x512) ![0, 0] S32x512.size inb_S32x512_S32x512_0_0).toLoadRect (View.loadsAt_vmem h_S32x512))
    Prog.lift (.store arg22 (Rect.unit (s := S32x512) ![0, 0] S32x512.size inb_S32x512_S32x512_0_0) (k1_pay15 (F := F)) Finset.univ (View.stores_vmem_bits_univ h_S32x512 rfl) (.inl rfl))
    pure ⟨⟩
  else do
    pure ⟨⟩

/-- Conditional block 3: the token block's results, and its part of `d_lora_a`. -/
def blk3 (i : grid1.Coords) (arg2 : Memref sig .tc .vmem S512x1536 .bf16) (harg2 : arg2.IsWhole) (arg5 : Memref sig .tc .vmem S32x1536 .bf16) (harg5 : arg5.IsWhole) (arg12 : Memref sig .tc .vmem S512x1536 .bf16) (harg12 : arg12.IsWhole) (arg18 : Memref sig .tc .vmem S512x32 .bf16) (harg18 : arg18.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) : Prog (TpuEff nD τ sig (Elt F) Λ₀ .tc) PUnit := do
  if _h : k1_cond3 i = 1#1 then do
    let v84 : Vec F S32x512 .f32 ← Prog.lift (.load arg22 (Rect.unit (s := S32x512) ![0, 0] S32x512.size inb_S32x512_S32x512_0_0).toLoadRect (View.loadsAt_vmem h_S32x512))
    let v86 : Vec F S32x512 .f32 ← Prog.lift (.load arg22 (Rect.unit (s := S32x512) ![0, 0] S32x512.size inb_S32x512_S32x512_0_0).toLoadRect (View.loadsAt_vmem h_S32x512))
    let v89 : Vec F S512x32 .bf16 ← Prog.lift (.load arg18 (Rect.unit (s := S512x32) ![0, 0] S512x32.size inb_S512x32_S512x32_0_0).toLoadRect (View.loadsAt_vmem h_S512x32))
    Prog.lift (.store arg18 (Rect.unit (s := S512x32) ![0, 0] S512x32.size inb_S512x32_S512x32_0_0) (k1_pay2 v86) Finset.univ (View.stores_vmem h_S512x32 (harg18.storeExact_slice rfl _ packedbf16_S512x32_S512x32_0_0) (fun _ => rfl)) (.inl rfl))
    let v90 : Vec F S512x1536 .f32 ← Prog.lift (.load arg21 (Rect.unit (s := S512x1536) ![0, 0] S512x1536.size inb_S512x1536_S512x1536_0_0).toLoadRect (View.loadsAt_vmem h_S512x1536))
    let v91 : Vec F S32x1536 .bf16 ← Prog.lift (.load arg5 (Rect.unit (s := S32x1536) ![0, 0] S32x1536.size inb_S32x1536_S32x1536_0_0).toLoadRect (View.loadsAt_vmem h_S32x1536))
    let v95 : Vec F S512x1536 .bf16 ← Prog.lift (.load arg12 (Rect.unit (s := S512x1536) ![0, 0] S512x1536.size inb_S512x1536_S512x1536_0_0).toLoadRect (View.loadsAt_vmem h_S512x1536))
    Prog.lift (.store arg12 (Rect.unit (s := S512x1536) ![0, 0] S512x1536.size inb_S512x1536_S512x1536_0_0) (k1_pay3 v86 v90 v91) Finset.univ (View.stores_vmem h_S512x1536 (harg12.storeExact_slice rfl _ packedbf16_S512x1536_S512x1536_0_0) (fun _ => rfl)) (.inl rfl))
    let v96 : Vec F S32x1536 .f32 ← Prog.lift (.load arg23 (Rect.unit (s := S32x1536) ![0, 0] S32x1536.size inb_S32x1536_S32x1536_0_0).toLoadRect (View.loadsAt_vmem h_S32x1536))
    let v97 : Vec F S512x1536 .bf16 ← Prog.lift (.load arg2 (Rect.unit (s := S512x1536) ![0, 0] S512x1536.size inb_S512x1536_S512x1536_0_0).toLoadRect (View.loadsAt_vmem h_S512x1536))
    let v101 : Vec F S32x1536 .f32 ← Prog.lift (.load arg23 (Rect.unit (s := S32x1536) ![0, 0] S32x1536.size inb_S32x1536_S32x1536_0_0).toLoadRect (View.loadsAt_vmem h_S32x1536))
    Prog.lift (.store arg23 (Rect.unit (s := S32x1536) ![0, 0] S32x1536.size inb_S32x1536_S32x1536_0_0) (k1_pay4 v84 v96 v97) Finset.univ (View.stores_vmem_bits_univ h_S32x1536 rfl) (.inl rfl))
    pure ⟨⟩
  else do
    pure ⟨⟩

/-- Conditional block 4: the results of the whole run. -/
def blk4 (i : grid1.Coords) (arg8 : Memref sig .tc .vmem S1x8960 .f32) (harg8 : arg8.IsWhole) (arg13 : Memref sig .tc .vmem S32x1536 .bf16) (harg13 : arg13.IsWhole) (arg15 : Memref sig .tc .vmem S1x8960 .f32) (harg15 : arg15.IsWhole) (arg23 : Memref sig .tc .vmem S32x1536 .f32) (harg23 : arg23.IsWhole) : Prog (TpuEff nD τ sig (Elt F) Λ₀ .tc) PUnit := do
  if _h : k1_cond4 i = 1#1 then do
    let v84 : Vec F S32x1536 .f32 ← Prog.lift (.load arg23 (Rect.unit (s := S32x1536) ![0, 0] S32x1536.size inb_S32x1536_S32x1536_0_0).toLoadRect (View.loadsAt_vmem h_S32x1536))
    let v86 : Vec F S32x1536 .bf16 ← Prog.lift (.load arg13 (Rect.unit (s := S32x1536) ![0, 0] S32x1536.size inb_S32x1536_S32x1536_0_0).toLoadRect (View.loadsAt_vmem h_S32x1536))
    Prog.lift (.store arg13 (Rect.unit (s := S32x1536) ![0, 0] S32x1536.size inb_S32x1536_S32x1536_0_0) (k1_pay5 v84) Finset.univ (View.stores_vmem h_S32x1536 (harg13.storeExact_slice rfl _ packedbf16_S32x1536_S32x1536_0_0) (fun _ => rfl)) (.inl rfl))
    let v87 : Vec F S1x8960 .f32 ← Prog.lift (.load arg15 (Rect.unit (s := S1x8960) ![0, 0] S1x8960.size inb_S1x8960_S1x8960_0_0).toLoadRect (View.loadsAt_vmem h_S1x8960))
    let v89 : Vec F S1x8960 .f32 ← Prog.lift (.load arg8 (Rect.unit (s := S1x8960) ![0, 0] S1x8960.size inb_S1x8960_S1x8960_0_0).toLoadRect (View.loadsAt_vmem h_S1x8960))
    let v92 : Vec F S1x8960 .f32 ← Prog.lift (.load arg15 (Rect.unit (s := S1x8960) ![0, 0] S1x8960.size inb_S1x8960_S1x8960_0_0).toLoadRect (View.loadsAt_vmem h_S1x8960))
    Prog.lift (.store arg15 (Rect.unit (s := S1x8960) ![0, 0] S1x8960.size inb_S1x8960_S1x8960_0_0) (k1_pay6 v87 v89) Finset.univ (View.stores_vmem_bits_univ h_S1x8960 rfl) (.inl rfl))
    pure ⟨⟩
  else do
    pure ⟨⟩

/-- The straight stretch: one tile of `z`, and the tile's part of `dm`, `dx`, `gb` and `d_lora_b`. -/
def blkM (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) : Prog (TpuEff nD τ sig (Elt F) Λ₀ .tc) PUnit := do
  let v11 : Vec F S1280x1536 .fp8e4m3 ← Prog.lift (.load arg3 (Rect.unit (s := S8960x1536) (k1_off1 i) S1280x1536.size (k1_off1_inb i)).toLoadRect (View.loadsAt_vmem h_S1280x1536))
  let v14 : Vec F S1x1280 .f32 ← Prog.lift (.load arg4 (Rect.unit (s := S1x8960) (k1_off2 i) S1x1280.size (k1_off2_inb i)).toLoadRect (View.loadsAt_vmem h_S1x1280))
  let v16 : Vec F S512x1536 .bf16 ← Prog.lift (.load arg2 (Rect.unit (s := S512x1536) ![0, 0] S512x1536.size inb_S512x1536_S512x1536_0_0).toLoadRect (View.loadsAt_vmem h_S512x1536))
  let v21 : Vec F S512x32 .bf16 ← Prog.lift (.load arg19 (Rect.unit (s := S512x32) ![0, 0] S512x32.size inb_S512x32_S512x32_0_0).toLoadRect (View.loadsAt_vmem h_S512x32))
  let v23 : Vec F S1280x32 .bf16 ← Prog.lift (.load arg6 (Rect.unit (s := S8960x32) (k1_off3 i) S1280x32.size (k1_off3_inb i)).toLoadRect (View.loadsAt_vmem h_S1280x32))
  let v27 : Vec F S512x1280 .bf16 ← Prog.lift (.load arg16 (Rect.unit (s := S512x1280) ![0, 0] S512x1280.size inb_S512x1280_S512x1280_0_0).toLoadRect (View.loadsAt_vmem h_S512x1280))
  Prog.lift (.store arg16 (Rect.unit (s := S512x1280) ![0, 0] S512x1280.size inb_S512x1280_S512x1280_0_0) (k1_pay19 v11 v14 v16 v21 v23) Finset.univ (View.stores_vmem h_S512x1280 (harg16.storeExact_slice rfl _ packedbf16_S512x1280_S512x1280_0_0) (fun _ => rfl)) (.inl rfl))
  let v28 : Vec F S512x1280 .fp8e5m2 ← Prog.lift (.load arg10 (Rect.unit (s := S512x1280) ![0, 0] S512x1280.size inb_S512x1280_S512x1280_0_0).toLoadRect (View.loadsAt_vmem h_S512x1280))
  let v31 : Vec F S512x1 .f32 ← Prog.lift (.load arg11 (Rect.unit (s := S512x1) ![0, 0] S512x1.size inb_S512x1_S512x1_0_0).toLoadRect (View.loadsAt_vmem h_S512x1))
  let ⟨v49, v70, v71, cst_35⟩ : Σ' (v49 : FVec F S512x1280 .bf16) (v70 : FVec F S32x1280 .f32) (v71 : Vec F S32x512 .bf16), FVec F S32x1280 .f32 ← k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Scalar.muli (BitVec.ofNat 32 (i 1).val) 1280#32) (k1_pay16 v11) (k1_pay17 v14) (k1_pay18 v11 v14 v16 v21 v23) (k1_pay20 v28) (k1_pay21 v31)
  let v75 : Vec F S32x1280 .f32 ← Prog.lift (.load arg14 (Rect.unit (s := S32x8960) (k1_off4 i) S32x1280.size (k1_off4_inb i)).toLoadRect (View.loadsAt_vmem h_S32x1280))
  Prog.lift (.store arg14 (Rect.unit (s := S32x8960) (k1_off4 i) S32x1280.size (k1_off4_inb i)) (k1_pay1 v49 v70 v71 cst_35) Finset.univ (View.stores_vmem_bits_univ h_S32x1280 rfl) (.inl rfl))
  pure ⟨⟩

set_option maxRecDepth 65536 in
set_option maxHeartbeats 2000000 in
/-- The printed body is the sequence of the blocks. -/
theorem body_eq_blocks (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) :
    cc1_dora_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      = (blk1 i arg14 harg14 arg15 harg15 arg23 harg23 >>= fun _ => blk2 i arg2 harg2 arg5 harg5 arg17 harg17 arg19 harg19 arg20 harg20 arg21 harg21 arg22 harg22 >>= fun _ => blkM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 >>= fun _ =>
          blk3 i arg2 harg2 arg5 harg5 arg12 harg12 arg18 harg18 arg21 harg21 arg22 harg22 arg23 harg23 >>= fun _ => blk4 i arg8 harg8 arg13 harg13 arg15 harg15 arg23 harg23) := by
  rw [cc1_dora_backward_eq_skeleton]; unfold cc1_dora_backward_skel
  rw [k1_part1_eq_skeleton]; unfold k1_part1_skel blk1 blk2 blk3 blk4 blkM
  by_cases h1 : (Scalar.cmpi .ne (Scalar.extui (Scalar.andi (Scalar.cmpi .eq (BitVec.ofNat 32 (i 0).val) 0#32) (Scalar.cmpi .eq (BitVec.ofNat 32 (i 1).val) 0#32))) 0#32) = 1#1 <;> by_cases h2 : k1_cond2 i = 1#1 <;> by_cases h3 : k1_cond3 i = 1#1 <;> by_cases h4 : k1_cond4 i = 1#1 <;>
    simp only [h1, h2, h3, h4, dite_true, dite_false, if_true, if_false, dite_eq_ite] <;> rfl

end Cert.Kernel.Body

end
-- ==== Proof.Kernel.Triples.lean ====
module

public import proofs.«01_k».proof.Proof.Kernel.Blocks

/-! # The triples of the backward kernel's blocks

Each block of the body, at whole staging memrefs holding stated contents, leaves in every buffer a stated function of
them: a store of a whole buffer leaves its payload, a store of a column range overlays the range. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {Val : EltTy → Type} {κ : Kind} {sp : Space} {s : Shape} {e : EltTy}

/-- What reads back after one store over contents `f`: the rectangle overlaid on what `f` read. -/
theorem read_writes_one (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    exact (View.read_writes_cons_emb v f r w [] x).trans (Rect.overlay_emb r _ w x).symm
  · rw [Rect.overlay_of_not_mem _ _ _ hy]
    exact View.read_writes_cons_miss v f ⟨r, w⟩ [] y hy

/-- A store of the whole view leaves its payload. -/
theorem read_writes_unit0 (v : View sig κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  subst h
  funext y
  have h := View.read_writes_cons_emb v f (Rect.whole s) w L y
  rwa [Rect.emb_whole_apply] at h

/-- A load of the whole view reads the contents. -/
theorem readAt_unit0 (v : View sig κ sp s e) (f : v.ty.Contents Val) {off : Fin s.rank → ℕ} (h : off = fun _ => 0)
    (inb : ∀ a, off a + s.size a ≤ s.size a) : v.readAt Val (Rect.unit off (no_index s.size) inb).toLoadRect f = v.read Val f :=
  (View.readAt_eq_ld v f _).trans (View.ld_unit_zero h inb _)

end Reads

theorem zero2 : (![0, 0] : Fin 2 → ℕ) = fun _ => 0 := by decide

/-- Conditional block 1. -/
theorem blk1_spec (c : Dev nD) (E : Set ℕ) (i : grid1.Coords) (arg14 : Memref sig .tc .vmem S32x8960 .f32) (harg14 : arg14.IsWhole) (arg15 : Memref sig .tc .vmem S1x8960 .f32) (harg15 : arg15.IsWhole) (arg23 : Memref sig .tc .vmem S32x1536 .f32) (harg23 : arg23.IsWhole)
    (dlbt : Vec F S32x8960 .f32) (dm : Vec F S1x8960 .f32) (dla : Vec F S32x1536 .f32) (K : PUnit → sProp 𝕄) :
    iprop(owns (c : Thread nD τ) arg14 fullShare dlbt ∗ owns (c : Thread nD τ) arg15 fullShare dm ∗ owns (c : Thread nD τ) arg23 fullShare dla
        ∗ (iprop(owns (c : Thread nD τ) arg14 fullShare (if cond1 i then k1_pay8 (F := F) else dlbt) ∗ owns (c : Thread nD τ) arg15 fullShare (if cond1 i then k1_pay9 (F := F) else dm) ∗ owns (c : Thread nD τ) arg23 fullShare (if cond1 i then k1_pay7 (F := F) else dla)) -∗ K ⟨⟩))
      ⊢ wp frame (wpE (defs₀ (F := F)) Variants.none c none) E (blk1 i arg14 harg14 arg15 harg15 arg23 harg23) K := by
  unfold blk1
  by_cases hc : cond1 i
  · simp only [hc, if_true, dif_pos]
    unfold owns
    iintro ⟨⟨%f14, %h14, H14⟩, ⟨%f15, %h15, H15⟩, ⟨%f23, %h23, H23⟩, Hk⟩
    subst h14 h15 h23
    sl_exec
    sl_step
    iapply Hk
    isplitl [H14]
    · iexists _; isplitr
      swap; · iexact H14
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H15]
    · iexists _; isplitr
      swap; · iexact H15
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists _; isplitr
    swap; · iexact H23
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H14, H15, H23, Hk⟩
    sl_step
    iapply Hk
    isplitl [H14]; · iexact H14
    isplitl [H15]; · iexact H15
    iexact H23

/-- Conditional block 2. -/
theorem blk2_spec (c : Dev nD) (E : Set ℕ) (i : grid1.Coords) (arg2 : Memref sig .tc .vmem S512x1536 .bf16) (harg2 : arg2.IsWhole) (arg5 : Memref sig .tc .vmem S32x1536 .bf16) (harg5 : arg5.IsWhole) (arg17 : Memref sig .tc .vmem S512x32 .bf16) (harg17 : arg17.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole)
    (x : Vec F S512x1536 .bf16) (la : Vec F S32x1536 .bf16) (xao : Vec F S512x32 .bf16) (xa : Vec F S512x32 .bf16) (xat : Vec F S32x512 .bf16) (dx : Vec F S512x1536 .f32) (gbt : Vec F S32x512 .f32) (K : PUnit → sProp 𝕄) :
    iprop(owns (c : Thread nD τ) arg2 fullShare x ∗ owns (c : Thread nD τ) arg5 fullShare la ∗ owns (c : Thread nD τ) arg17 fullShare xao ∗ owns (c : Thread nD τ) arg19 fullShare xa ∗ owns (c : Thread nD τ) arg20 fullShare xat ∗ owns (c : Thread nD τ) arg21 fullShare dx ∗ owns (c : Thread nD τ) arg22 fullShare gbt
        ∗ (iprop(owns (c : Thread nD τ) arg2 fullShare x ∗ owns (c : Thread nD τ) arg5 fullShare la ∗ owns (c : Thread nD τ) arg17 fullShare (if k1_cond2 i = 1#1 then k1_pay13 x la else xao) ∗ owns (c : Thread nD τ) arg19 fullShare (if k1_cond2 i = 1#1 then k1_pay11 x la else xa) ∗ owns (c : Thread nD τ) arg20 fullShare (if k1_cond2 i = 1#1 then k1_pay12 x la else xat) ∗ owns (c : Thread nD τ) arg21 fullShare (if k1_cond2 i = 1#1 then k1_pay14 (F := F) else dx) ∗ owns (c : Thread nD τ) arg22 fullShare (if k1_cond2 i = 1#1 then k1_pay15 (F := F) else gbt)) -∗ K ⟨⟩))
      ⊢ wp frame (wpE (defs₀ (F := F)) Variants.none c none) E (blk2 i arg2 harg2 arg5 harg5 arg17 harg17 arg19 harg19 arg20 harg20 arg21 harg21 arg22 harg22) K := by
  unfold blk2
  by_cases hc : k1_cond2 i = 1#1
  · simp only [hc, if_true, dif_pos]
    unfold owns
    iintro ⟨⟨%f2, %h2, H2⟩, ⟨%f5, %h5, H5⟩, ⟨%f17, %h17, H17⟩, ⟨%f19, %h19, H19⟩, ⟨%f20, %h20, H20⟩, ⟨%f21, %h21, H21⟩, ⟨%f22, %h22, H22⟩, Hk⟩
    subst h2 h5 h17 h19 h20 h21 h22
    sl_exec
    sl_step
    iapply Hk
    isplitl [H2]
    · iexists f2; isplitr; · ipureintro; rfl
      iexact H2
    isplitl [H5]
    · iexists f5; isplitr; · ipureintro; rfl
      iexact H5
    isplitl [H17]
    · iexists _; isplitr
      swap; · iexact H17
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H19]
    · iexists _; isplitr
      swap; · iexact H19
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H20]
    · iexists _; isplitr
      swap; · iexact H20
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H21]
    · iexists _; isplitr
      swap; · iexact H21
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists _; isplitr
    swap; · iexact H22
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H2, H5, H17, H19, H20, H21, H22, Hk⟩
    sl_step
    iapply Hk
    isplitl [H2]; · iexact H2
    isplitl [H5]; · iexact H5
    isplitl [H17]; · iexact H17
    isplitl [H19]; · iexact H19
    isplitl [H20]; · iexact H20
    isplitl [H21]; · iexact H21
    iexact H22

/-- Conditional block 3. -/
theorem blk3_spec (c : Dev nD) (E : Set ℕ) (i : grid1.Coords) (arg2 : Memref sig .tc .vmem S512x1536 .bf16) (harg2 : arg2.IsWhole) (arg5 : Memref sig .tc .vmem S32x1536 .bf16) (harg5 : arg5.IsWhole) (arg12 : Memref sig .tc .vmem S512x1536 .bf16) (harg12 : arg12.IsWhole) (arg18 : Memref sig .tc .vmem S512x32 .bf16) (harg18 : arg18.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (x : Vec F S512x1536 .bf16) (la : Vec F S32x1536 .bf16) (dxo : Vec F S512x1536 .bf16) (gbo : Vec F S512x32 .bf16) (dx : Vec F S512x1536 .f32) (gbt : Vec F S32x512 .f32) (dla : Vec F S32x1536 .f32) (K : PUnit → sProp 𝕄) :
    iprop(owns (c : Thread nD τ) arg2 fullShare x ∗ owns (c : Thread nD τ) arg5 fullShare la ∗ owns (c : Thread nD τ) arg12 fullShare dxo ∗ owns (c : Thread nD τ) arg18 fullShare gbo ∗ owns (c : Thread nD τ) arg21 fullShare dx ∗ owns (c : Thread nD τ) arg22 fullShare gbt ∗ owns (c : Thread nD τ) arg23 fullShare dla
        ∗ (iprop(owns (c : Thread nD τ) arg2 fullShare x ∗ owns (c : Thread nD τ) arg5 fullShare la ∗ owns (c : Thread nD τ) arg12 fullShare (if k1_cond3 i = 1#1 then k1_pay3 gbt dx la else dxo) ∗ owns (c : Thread nD τ) arg18 fullShare (if k1_cond3 i = 1#1 then k1_pay2 gbt else gbo) ∗ owns (c : Thread nD τ) arg21 fullShare dx ∗ owns (c : Thread nD τ) arg22 fullShare gbt ∗ owns (c : Thread nD τ) arg23 fullShare (if k1_cond3 i = 1#1 then k1_pay4 gbt dla x else dla)) -∗ K ⟨⟩))
      ⊢ wp frame (wpE (defs₀ (F := F)) Variants.none c none) E (blk3 i arg2 harg2 arg5 harg5 arg12 harg12 arg18 harg18 arg21 harg21 arg22 harg22 arg23 harg23) K := by
  unfold blk3
  by_cases hc : k1_cond3 i = 1#1
  · simp only [hc, if_true, dif_pos]
    unfold owns
    iintro ⟨⟨%f2, %h2, H2⟩, ⟨%f5, %h5, H5⟩, ⟨%f12, %h12, H12⟩, ⟨%f18, %h18, H18⟩, ⟨%f21, %h21, H21⟩, ⟨%f22, %h22, H22⟩, ⟨%f23, %h23, H23⟩, Hk⟩
    subst h2 h5 h12 h18 h21 h22 h23
    sl_exec
    sl_step
    iapply Hk
    isplitl [H2]
    · iexists f2; isplitr; · ipureintro; rfl
      iexact H2
    isplitl [H5]
    · iexists f5; isplitr; · ipureintro; rfl
      iexact H5
    isplitl [H12]
    · iexists _; isplitr
      swap; · iexact H12
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H18]
    · iexists _; isplitr
      swap; · iexact H18
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H21]
    · iexists f21; isplitr; · ipureintro; rfl
      iexact H21
    isplitl [H22]
    · iexists f22; isplitr; · ipureintro; rfl
      iexact H22
    iexists _; isplitr
    swap; · iexact H23
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H2, H5, H12, H18, H21, H22, H23, Hk⟩
    sl_step
    iapply Hk
    isplitl [H2]; · iexact H2
    isplitl [H5]; · iexact H5
    isplitl [H12]; · iexact H12
    isplitl [H18]; · iexact H18
    isplitl [H21]; · iexact H21
    isplitl [H22]; · iexact H22
    iexact H23

/-- Conditional block 4. -/
theorem blk4_spec (c : Dev nD) (E : Set ℕ) (i : grid1.Coords) (arg8 : Memref sig .tc .vmem S1x8960 .f32) (harg8 : arg8.IsWhole) (arg13 : Memref sig .tc .vmem S32x1536 .bf16) (harg13 : arg13.IsWhole) (arg15 : Memref sig .tc .vmem S1x8960 .f32) (harg15 : arg15.IsWhole) (arg23 : Memref sig .tc .vmem S32x1536 .f32) (harg23 : arg23.IsWhole)
    (n : Vec F S1x8960 .f32) (dlao : Vec F S32x1536 .bf16) (dm : Vec F S1x8960 .f32) (dla : Vec F S32x1536 .f32) (K : PUnit → sProp 𝕄) :
    iprop(owns (c : Thread nD τ) arg8 fullShare n ∗ owns (c : Thread nD τ) arg13 fullShare dlao ∗ owns (c : Thread nD τ) arg15 fullShare dm ∗ owns (c : Thread nD τ) arg23 fullShare dla
        ∗ (iprop(owns (c : Thread nD τ) arg8 fullShare n ∗ owns (c : Thread nD τ) arg13 fullShare (if k1_cond4 i = 1#1 then k1_pay5 dla else dlao) ∗ owns (c : Thread nD τ) arg15 fullShare (if k1_cond4 i = 1#1 then k1_pay6 dm n else dm) ∗ owns (c : Thread nD τ) arg23 fullShare dla) -∗ K ⟨⟩))
      ⊢ wp frame (wpE (defs₀ (F := F)) Variants.none c none) E (blk4 i arg8 harg8 arg13 harg13 arg15 harg15 arg23 harg23) K := by
  unfold blk4
  by_cases hc : k1_cond4 i = 1#1
  · simp only [hc, if_true, dif_pos]
    unfold owns
    iintro ⟨⟨%f8, %h8, H8⟩, ⟨%f13, %h13, H13⟩, ⟨%f15, %h15, H15⟩, ⟨%f23, %h23, H23⟩, Hk⟩
    subst h8 h13 h15 h23
    sl_exec
    sl_step
    iapply Hk
    isplitl [H8]
    · iexists f8; isplitr; · ipureintro; rfl
      iexact H8
    isplitl [H13]
    · iexists _; isplitr
      swap; · iexact H13
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H15]
    · iexists _; isplitr
      swap; · iexact H15
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists f23; isplitr; · ipureintro; rfl
    iexact H23
  · simp only [hc, if_false, dif_neg, not_false_eq_true]
    iintro ⟨H8, H13, H15, H23, Hk⟩
    sl_step
    iapply Hk
    isplitl [H8]; · iexact H8
    isplitl [H13]; · iexact H13
    isplitl [H15]; · iexact H15
    iexact H23

/-! ## The straight stretch -/

/-- The rows of the weight of grid column `i 1`. -/
abbrev rW (i : grid1.Coords) : Rect S8960x1536 := Rect.unit (s := S8960x1536) (k1_off1 i) S1280x1536.size (k1_off1_inb i)
/-- The columns of a row of output channels of grid column `i 1`. -/
abbrev rV (i : grid1.Coords) : Rect S1x8960 := Rect.unit (s := S1x8960) (k1_off2 i) S1x1280.size (k1_off2_inb i)
/-- The rows of `lora_b` of grid column `i 1`. -/
abbrev rB (i : grid1.Coords) : Rect S8960x32 := Rect.unit (s := S8960x32) (k1_off3 i) S1280x32.size (k1_off3_inb i)
/-- The columns of the transposed `lora_b` (and of its gradient) of grid column `i 1`. -/
abbrev rT (i : grid1.Coords) : Rect S32x8960 := Rect.unit (s := S32x8960) (k1_off4 i) S32x1280.size (k1_off4_inb i)

section Mid

variable (i : grid1.Coords)

/-- The tile of `z`, in the accumulation format. -/
abbrev zF (w : Vec F S8960x1536 .fp8e4m3) (ws : Vec F S1x8960 .f32) (x : Vec F S512x1536 .bf16) (xa : Vec F S512x32 .bf16) (lb : Vec F S8960x32 .bf16) : FVec F S512x1280 .f32 :=
  k1_pay18 (View.ld w (rW i)) (View.ld ws (rV i)) x xa (View.ld lb (rB i))

/-- The tile of `z`. -/
abbrev zB (w : Vec F S8960x1536 .fp8e4m3) (ws : Vec F S1x8960 .f32) (x : Vec F S512x1536 .bf16) (xa : Vec F S512x32 .bf16) (lb : Vec F S8960x32 .bf16) : FVec F S512x1280 .bf16 :=
  k1_pay19 (View.ld w (rW i)) (View.ld ws (rV i)) x xa (View.ld lb (rB i))

/-- `dm` with the tile's part added. -/
abbrev dmM (w : Vec F S8960x1536 .fp8e4m3) (ws : Vec F S1x8960 .f32) (x : Vec F S512x1536 .bf16) (xa : Vec F S512x32 .bf16) (lb : Vec F S8960x32 .bf16) (dy : Vec F S512x1280 .fp8e5m2) (dys : Vec F S512x1 .f32) (dm : Vec F S1x8960 .f32) : Vec F S1x8960 .f32 :=
  (rV i).overlay dm (k1_pay23 (zF i w ws x xa lb) (k1_pay20 dy) (k1_pay21 dys) (View.ld dm (rV i)))

/-- The tile of `g`. -/
abbrev gM (c0 : Vec F S1x8960 .f32) (dy : Vec F S512x1280 .fp8e5m2) (dys : Vec F S512x1 .f32) : FVec F S512x1280 .bf16 :=
  k1_pay24 (k1_pay20 dy) (k1_pay21 dys) (View.ld c0 (rV i))

/-- `dx` with the tile's part added. -/
abbrev dxM (w : Vec F S8960x1536 .fp8e4m3) (ws : Vec F S1x8960 .f32) (c0 : Vec F S1x8960 .f32) (dy : Vec F S512x1280 .fp8e5m2) (dys : Vec F S512x1 .f32) (dx : Vec F S512x1536 .f32) : Vec F S512x1536 .f32 :=
  k1_pay25 (k1_pay16 (View.ld w (rW i))) (k1_pay17 (View.ld ws (rV i))) (k1_pay20 dy) (k1_pay21 dys) (View.ld c0 (rV i)) dx

/-- The transposed `gb` with the tile's part added. -/
abbrev gbtM (lbt : Vec F S32x8960 .bf16) (c0 : Vec F S1x8960 .f32) (dy : Vec F S512x1280 .fp8e5m2) (dys : Vec F S512x1 .f32) (gbt : Vec F S32x512 .f32) : Vec F S32x512 .f32 :=
  k1_pay26 (k1_pay20 dy) (k1_pay21 dys) (View.ld c0 (rV i)) gbt (View.ld lbt (rT i))

/-- The transposed `d_lora_b` with the tile's part added. -/
abbrev dlbtM (c0 : Vec F S1x8960 .f32) (dy : Vec F S512x1280 .fp8e5m2) (dys : Vec F S512x1 .f32) (xat : Vec F S32x512 .bf16) (dlbt : Vec F S32x8960 .f32) : Vec F S32x8960 .f32 :=
  (rT i).overlay dlbt (k1_pay1 (gM i c0 dy dys) (k1_pay27 (View.ld dlbt (rT i))) xat (constant S32x1280 .f32 0x00000000#32))

end Mid

/-- The straight stretch. -/
theorem blkM_spec (c : Dev nD) (E : Set ℕ) (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (x : Vec F S512x1536 .bf16) (w : Vec F S8960x1536 .fp8e4m3) (ws : Vec F S1x8960 .f32) (la : Vec F S32x1536 .bf16) (lb : Vec F S8960x32 .bf16) (lbt : Vec F S32x8960 .bf16) (c0 : Vec F S1x8960 .f32) (dy : Vec F S512x1280 .fp8e5m2) (dys : Vec F S512x1 .f32) (dlbt : Vec F S32x8960 .f32) (dm : Vec F S1x8960 .f32) (zo : Vec F S512x1280 .bf16) (xa : Vec F S512x32 .bf16) (xat : Vec F S32x512 .bf16) (dx : Vec F S512x1536 .f32) (gbt : Vec F S32x512 .f32) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare la ∗ owns (c : Thread nD τ) arg6 fullShare lb ∗ owns (c : Thread nD τ) arg7 fullShare lbt ∗ owns (c : Thread nD τ) arg9 fullShare c0 ∗ owns (c : Thread nD τ) arg10 fullShare dy ∗ owns (c : Thread nD τ) arg11 fullShare dys ∗ owns (c : Thread nD τ) arg14 fullShare dlbt ∗ owns (c : Thread nD τ) arg15 fullShare dm ∗ owns (c : Thread nD τ) arg16 fullShare zo ∗ owns (c : Thread nD τ) arg19 fullShare xa ∗ owns (c : Thread nD τ) arg20 fullShare xat ∗ owns (c : Thread nD τ) arg21 fullShare dx ∗ owns (c : Thread nD τ) arg22 fullShare gbt
        ∗ (iprop(owns (c : Thread nD τ) arg2 fullShare x ∗ owns (c : Thread nD τ) arg3 fullShare w ∗ owns (c : Thread nD τ) arg4 fullShare ws ∗ owns (c : Thread nD τ) arg5 fullShare la ∗ owns (c : Thread nD τ) arg6 fullShare lb ∗ owns (c : Thread nD τ) arg7 fullShare lbt ∗ owns (c : Thread nD τ) arg9 fullShare c0 ∗ owns (c : Thread nD τ) arg10 fullShare dy ∗ owns (c : Thread nD τ) arg11 fullShare dys ∗ owns (c : Thread nD τ) arg14 fullShare (dlbtM i c0 dy dys xat dlbt) ∗ owns (c : Thread nD τ) arg15 fullShare (dmM i w ws x xa lb dy dys dm) ∗ owns (c : Thread nD τ) arg16 fullShare (zB i w ws x xa lb) ∗ owns (c : Thread nD τ) arg19 fullShare xa ∗ owns (c : Thread nD τ) arg20 fullShare xat ∗ owns (c : Thread nD τ) arg21 fullShare (dxM i w ws c0 dy dys dx) ∗ owns (c : Thread nD τ) arg22 fullShare (gbtM i lbt c0 dy dys gbt)) -∗ K ⟨⟩))
      ⊢ wp frame (wpE (defs₀ (F := F)) Variants.none c none) E (blkM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold blkM
  simp only [k1_part2_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, ⟨%f10, %h10, H10⟩, ⟨%f11, %h11, H11⟩, ⟨%f14, %h14, H14⟩, ⟨%f15, %h15, H15⟩, ⟨%f16, %h16, H16⟩, ⟨%f19, %h19, H19⟩, ⟨%f20, %h20, H20⟩, ⟨%f21, %h21, H21⟩, ⟨%f22, %h22, H22⟩, Hk⟩
  subst h2 h3 h4 h5 h6 h7 h9 h10 h11 h14 h15 h16 h19 h20 h21 h22
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists _; isplitr
    swap; · iexact H14
    ipureintro
    refine (read_writes_one _ _ _ _).trans ?_
    delta blkM_spec.sl.r blkM_spec.sl.r_1 blkM_spec.sl.r_2 blkM_spec.sl.cst_35
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H15]
  · iexists _; isplitr
    swap; · iexact H15
    ipureintro
    refine (read_writes_one _ _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H16]
  · iexists _; isplitr
    swap; · iexact H16
    ipureintro
    refine (read_writes_unit0 _ _ zero2 _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_unit0 _ _ zero2 _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  iexists _; isplitr
  swap; · iexact H22
  ipureintro
  refine (read_writes_unit0 _ _ zero2 _ _ _).trans ?_
  simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]

end Cert.Kernel.Body

end
-- ==== Proof.Kernel.Step.lean ====
module

public import proofs.«01_k».proof.Proof.Kernel.Triples

/-! # One grid point of the backward kernel, as a step of a state

The buffers that carry something from one grid point to the next are the five scratch buffers and the staging buffers
of three outputs (the transposed gradient of `lora_b`, the gradient of the magnitude, `xa`). They form the state `Acc`;
the blocks of the inputs are `Ins`. A grid point maps the state it finds to the state it leaves (`step`), and writes the
other outputs from the state it leaves (`body_spec`). -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input blocks of one grid point. -/
structure Ins (F : FTy → Type) where
  x : Vec F S512x1536 .bf16
  w : Vec F S8960x1536 .fp8e4m3
  ws : Vec F S1x8960 .f32
  la : Vec F S32x1536 .bf16
  lb : Vec F S8960x32 .bf16
  lbt : Vec F S32x8960 .bf16
  n : Vec F S1x8960 .f32
  c : Vec F S1x8960 .f32
  dy : Vec F S512x1280 .fp8e5m2
  dys : Vec F S512x1 .f32

/-- The contents the body carries from one grid point to the next. -/
structure Acc (F : FTy → Type) where
  dlbt : Vec F S32x8960 .f32
  dm : Vec F S1x8960 .f32
  xo : Vec F S512x32 .bf16
  xa : Vec F S512x32 .bf16
  xat : Vec F S32x512 .bf16
  dx : Vec F S512x1536 .f32
  gbt : Vec F S32x512 .f32
  dla : Vec F S32x1536 .f32

/-- The first block: at the grid's first point the whole-array gradients start at zero. -/
def step1 (i : grid1.Coords) (s : Acc F) : Acc F :=
  { s with
    dlbt := if cond1 i then k1_pay8 (F := F) else s.dlbt
    dm := if cond1 i then k1_pay9 (F := F) else s.dm
    dla := if cond1 i then k1_pay7 (F := F) else s.dla }

/-- The second block: at a token block's first point `xa` is computed and the token block's gradients start at zero. -/
def step2 (i : grid1.Coords) (I : Ins F) (s : Acc F) : Acc F :=
  { s with
    xo := if k1_cond2 i = 1#1 then k1_pay13 I.x I.la else s.xo
    xa := if k1_cond2 i = 1#1 then k1_pay11 I.x I.la else s.xa
    xat := if k1_cond2 i = 1#1 then k1_pay12 I.x I.la else s.xat
    dx := if k1_cond2 i = 1#1 then k1_pay14 (F := F) else s.dx
    gbt := if k1_cond2 i = 1#1 then k1_pay15 (F := F) else s.gbt }

/-- The straight stretch: the tile's parts are added. -/
def stepM (i : grid1.Coords) (I : Ins F) (s : Acc F) : Acc F :=
  { s with
    dlbt := dlbtM i I.c I.dy I.dys s.xat s.dlbt
    dm := dmM i I.w I.ws I.x s.xa I.lb I.dy I.dys s.dm
    dx := dxM i I.w I.ws I.c I.dy I.dys s.dx
    gbt := gbtM i I.lbt I.c I.dy I.dys s.gbt }

/-- The third block: at a token block's last point the gradient of `lora_a` takes the token block's part. -/
def step3 (i : grid1.Coords) (I : Ins F) (s : Acc F) : Acc F :=
  { s with dla := if k1_cond3 i = 1#1 then k1_pay4 s.gbt s.dla I.x else s.dla }

/-- The fourth block: at the grid's last point the gradient of the magnitude is divided by the norms. -/
def step4 (i : grid1.Coords) (I : Ins F) (s : Acc F) : Acc F :=
  { s with dm := if k1_cond4 i = 1#1 then k1_pay6 s.dm I.n else s.dm }

/-- One grid point. -/
def step (i : grid1.Coords) (I : Ins F) (s : Acc F) : Acc F :=
  step4 i I (step3 i I (stepM i I (step2 i I (step1 i s))))

/-- The first two blocks do not depend on what a buffer they reset held. -/
theorem step12_congr (i : grid1.Coords) (I : Ins F) (s s' : Acc F)
    (h1 : ¬ cond1 i → s.dlbt = s'.dlbt ∧ s.dm = s'.dm ∧ s.dla = s'.dla)
    (h2 : ¬ k1_cond2 i = 1#1 → s.xo = s'.xo ∧ s.xa = s'.xa ∧ s.xat = s'.xat ∧ s.dx = s'.dx ∧ s.gbt = s'.gbt) :
    step2 i I (step1 i s) = step2 i I (step1 i s') := by
  unfold step2 step1
  by_cases hc1 : cond1 i <;> by_cases hc2 : k1_cond2 i = 1#1
  · simp only [if_pos hc1, if_pos hc2]
  · obtain ⟨a, b, e, f, g⟩ := h2 hc2
    simp only [if_pos hc1, if_neg hc2, a, b, e, f, g]
  · obtain ⟨a, b, e⟩ := h1 hc1
    simp only [if_neg hc1, if_pos hc2, a, b, e]
  · obtain ⟨a, b, e, f, g⟩ := h2 hc2
    obtain ⟨a', b', e'⟩ := h1 hc1
    simp only [if_neg hc1, if_neg hc2, a, b, e, f, g, a', b', e']

/-- One grid point does not depend on what a buffer it resets held. -/
theorem step_congr (i : grid1.Coords) (I : Ins F) (s s' : Acc F)
    (h1 : ¬ cond1 i → s.dlbt = s'.dlbt ∧ s.dm = s'.dm ∧ s.dla = s'.dla)
    (h2 : ¬ k1_cond2 i = 1#1 → s.xo = s'.xo ∧ s.xa = s'.xa ∧ s.xat = s'.xat ∧ s.dx = s'.dx ∧ s.gbt = s'.gbt) :
    step i I s = step i I s' := by
  unfold step; rw [step12_congr i I s s' h1 h2]

/-! Which block last wrote each field. -/

theorem step_dlbt (i : grid1.Coords) (I : Ins F) (s : Acc F) : (step i I s).dlbt = dlbtM i I.c I.dy I.dys (step2 i I (step1 i s)).xat (step1 i s).dlbt := by
  simp only [step, step4, step3, stepM, step2, step1]
theorem step_dm (i : grid1.Coords) (I : Ins F) (s : Acc F) : (step i I s).dm = (if k1_cond4 i = 1#1 then k1_pay6 (stepM i I (step2 i I (step1 i s))).dm I.n else (stepM i I (step2 i I (step1 i s))).dm) := by
  simp only [step, step4, step3, stepM, step2, step1]
theorem step_xo (i : grid1.Coords) (I : Ins F) (s : Acc F) : (step i I s).xo = (step2 i I (step1 i s)).xo := by
  simp only [step, step4, step3, stepM, step2, step1]
theorem step_xa (i : grid1.Coords) (I : Ins F) (s : Acc F) : (step i I s).xa = (step2 i I (step1 i s)).xa := by
  simp only [step, step4, step3, stepM, step2, step1]
theorem step_xat (i : grid1.Coords) (I : Ins F) (s : Acc F) : (step i I s).xat = (step2 i I (step1 i s)).xat := by
  simp only [step, step4, step3, stepM, step2, step1]
theorem step_dx (i : grid1.Coords) (I : Ins F) (s : Acc F) : (step i I s).dx = (stepM i I (step2 i I (step1 i s))).dx := by
  simp only [step, step4, step3, stepM, step2, step1]
theorem step_gbt (i : grid1.Coords) (I : Ins F) (s : Acc F) : (step i I s).gbt = (stepM i I (step2 i I (step1 i s))).gbt := by
  simp only [step, step4, step3, stepM, step2, step1]
theorem step_dla (i : grid1.Coords) (I : Ins F) (s : Acc F) : (step i I s).dla = (if k1_cond3 i = 1#1 then k1_pay4 (stepM i I (step2 i I (step1 i s))).gbt (step1 i s).dla I.x else (step1 i s).dla) := by
  simp only [step, step4, step3, stepM, step2, step1]

set_option maxHeartbeats 4000000 in
/-- ONE GRID POINT at whole buffers: the inputs stay, the carried buffers go from the state `s` to `step i I s`, and the other
    outputs are written from the state left (those stored under a condition keep what they held where it fails). -/
theorem body_spec (c : Dev nD) (E : Set ℕ) (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (I : Ins F) (s : Acc F) (dxo : Vec F S512x1536 .bf16) (dlao : Vec F S32x1536 .bf16) (zo : Vec F S512x1280 .bf16) (gbo : Vec F S512x32 .bf16) (K : PUnit → sProp 𝕄) :
    iprop(owns (c : Thread nD τ) arg2 fullShare I.x ∗ owns (c : Thread nD τ) arg3 fullShare I.w ∗ owns (c : Thread nD τ) arg4 fullShare I.ws ∗ owns (c : Thread nD τ) arg5 fullShare I.la ∗ owns (c : Thread nD τ) arg6 fullShare I.lb ∗ owns (c : Thread nD τ) arg7 fullShare I.lbt ∗ owns (c : Thread nD τ) arg8 fullShare I.n ∗ owns (c : Thread nD τ) arg9 fullShare I.c ∗ owns (c : Thread nD τ) arg10 fullShare I.dy ∗ owns (c : Thread nD τ) arg11 fullShare I.dys ∗ owns (c : Thread nD τ) arg12 fullShare dxo ∗ owns (c : Thread nD τ) arg13 fullShare dlao ∗ owns (c : Thread nD τ) arg14 fullShare s.dlbt ∗ owns (c : Thread nD τ) arg15 fullShare s.dm ∗ owns (c : Thread nD τ) arg16 fullShare zo ∗ owns (c : Thread nD τ) arg17 fullShare s.xo ∗ owns (c : Thread nD τ) arg18 fullShare gbo ∗ owns (c : Thread nD τ) arg19 fullShare s.xa ∗ owns (c : Thread nD τ) arg20 fullShare s.xat ∗ owns (c : Thread nD τ) arg21 fullShare s.dx ∗ owns (c : Thread nD τ) arg22 fullShare s.gbt ∗ owns (c : Thread nD τ) arg23 fullShare s.dla
        ∗ (iprop(owns (c : Thread nD τ) arg2 fullShare I.x ∗ owns (c : Thread nD τ) arg3 fullShare I.w ∗ owns (c : Thread nD τ) arg4 fullShare I.ws ∗ owns (c : Thread nD τ) arg5 fullShare I.la ∗ owns (c : Thread nD τ) arg6 fullShare I.lb ∗ owns (c : Thread nD τ) arg7 fullShare I.lbt ∗ owns (c : Thread nD τ) arg8 fullShare I.n ∗ owns (c : Thread nD τ) arg9 fullShare I.c ∗ owns (c : Thread nD τ) arg10 fullShare I.dy ∗ owns (c : Thread nD τ) arg11 fullShare I.dys ∗ owns (c : Thread nD τ) arg12 fullShare (if k1_cond3 i = 1#1 then k1_pay3 (step i I s).gbt (step i I s).dx I.la else dxo) ∗ owns (c : Thread nD τ) arg13 fullShare (if k1_cond4 i = 1#1 then k1_pay5 (step i I s).dla else dlao) ∗ owns (c : Thread nD τ) arg14 fullShare (step i I s).dlbt ∗ owns (c : Thread nD τ) arg15 fullShare (step i I s).dm ∗ owns (c : Thread nD τ) arg16 fullShare (zB i I.w I.ws I.x (step i I s).xa I.lb) ∗ owns (c : Thread nD τ) arg17 fullShare (step i I s).xo ∗ owns (c : Thread nD τ) arg18 fullShare (if k1_cond3 i = 1#1 then k1_pay2 (step i I s).gbt else gbo) ∗ owns (c : Thread nD τ) arg19 fullShare (step i I s).xa ∗ owns (c : Thread nD τ) arg20 fullShare (step i I s).xat ∗ owns (c : Thread nD τ) arg21 fullShare (step i I s).dx ∗ owns (c : Thread nD τ) arg22 fullShare (step i I s).gbt ∗ owns (c : Thread nD τ) arg23 fullShare (step i I s).dla) -∗ K ⟨⟩))
      ⊢ wp frame (wpE (defs₀ (F := F)) Variants.none c none) E (cc1_dora_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [body_eq_blocks]
  simp only [wp_bind]
  iintro ⟨H2, H3, H4, H5, H6, H7, H8, H9, H10, H11, H12, H13, H14, H15, H16, H17, H18, H19, H20, H21, H22, H23, Hk⟩
  iapply (blk1_spec c E i arg14 harg14 arg15 harg15 arg23 harg23 s.dlbt s.dm s.dla _)
  isplitl [H14]; · iexact H14
  isplitl [H15]; · iexact H15
  isplitl [H23]; · iexact H23
  iintro ⟨H14, H15, H23⟩
  iapply (blk2_spec c E i arg2 harg2 arg5 harg5 arg17 harg17 arg19 harg19 arg20 harg20 arg21 harg21 arg22 harg22 I.x I.la s.xo s.xa s.xat s.dx s.gbt _)
  isplitl [H2]; · iexact H2
  isplitl [H5]; · iexact H5
  isplitl [H17]; · iexact H17
  isplitl [H19]; · iexact H19
  isplitl [H20]; · iexact H20
  isplitl [H21]; · iexact H21
  isplitl [H22]; · iexact H22
  iintro ⟨H2, H5, H17, H19, H20, H21, H22⟩
  iapply (blkM_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 I.x I.w I.ws I.la I.lb I.lbt I.c I.dy I.dys (step1 i s).dlbt (step1 i s).dm zo (step2 i I (step1 i s)).xa (step2 i I (step1 i s)).xat (step2 i I (step1 i s)).dx (step2 i I (step1 i s)).gbt _)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H14]; · iexact H14
  isplitl [H15]; · iexact H15
  isplitl [H16]; · iexact H16
  isplitl [H19]; · iexact H19
  isplitl [H20]; · iexact H20
  isplitl [H21]; · iexact H21
  isplitl [H22]; · iexact H22
  iintro ⟨H2, H3, H4, H5, H6, H7, H9, H10, H11, H14, H15, H16, H19, H20, H21, H22⟩
  iapply (blk3_spec c E i arg2 harg2 arg5 harg5 arg12 harg12 arg18 harg18 arg21 harg21 arg22 harg22 arg23 harg23 I.x I.la dxo gbo (stepM i I (step2 i I (step1 i s))).dx (stepM i I (step2 i I (step1 i s))).gbt (step1 i s).dla _)
  isplitl [H2]; · iexact H2
  isplitl [H5]; · iexact H5
  isplitl [H12]; · iexact H12
  isplitl [H18]; · iexact H18
  isplitl [H21]; · iexact H21
  isplitl [H22]; · iexact H22
  isplitl [H23]; · iexact H23
  iintro ⟨H2, H5, H12, H18, H21, H22, H23⟩
  iapply (blk4_spec c E i arg8 harg8 arg13 harg13 arg15 harg15 arg23 harg23 I.n dlao (stepM i I (step2 i I (step1 i s))).dm (if k1_cond3 i = 1#1 then k1_pay4 (stepM i I (step2 i I (step1 i s))).gbt (step1 i s).dla I.x else (step1 i s).dla) _)
  isplitl [H8]; · iexact H8
  isplitl [H13]; · iexact H13
  isplitl [H15]; · iexact H15
  isplitl [H23]; · iexact H23
  iintro ⟨H8, H13, H15, H23⟩
  simp only [step_dlbt, step_dm, step_xo, step_xa, step_xat, step_dx, step_gbt, step_dla]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Cert.Kernel.Body
-- ==== Proof.Kernel.Region1.lean ====
module

public import proofs.«01_k».proof.Proof.Kernel.Step
public import Idealize.ShloMosaic.Lib.Pipeline.RegionsLoop
public import Idealize.ShloMosaic.Lib.Pipeline.FrameSuffix

/-! # The backward call's proof data and its body obligation

At contents `V` of the buffers when the call is entered: the blocks of its inputs (`iblk1`), the state before each grid
point (`St`, the steps of `Step` folded), what each staging buffer holds after a point (`dat1`), and the body obligation
of the pipeline at every point. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The conditions, in closed form -/

theorem cond1_iff (t : Fin grid1.N) : cond1 (grid1.coords t) ↔ t.val % 448 = 0 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [cond1, e0, e1]
  word_cmp
theorem cond2_iff (t : Fin grid1.N) : k1_cond2 (grid1.coords t) = 1#1 ↔ t.val % 7 = 0 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond2, e0, e1]
  word_cmp
theorem cond3_iff (t : Fin grid1.N) : k1_cond3 (grid1.coords t) = 1#1 ↔ t.val % 7 = 6 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond3, e0, e1]
  word_cmp
theorem cond4_iff (t : Fin grid1.N) : k1_cond4 (grid1.coords t) = 1#1 ↔ t.val % 448 = 447 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond4, e0, e1]
  word_cmp

/-! ## The state before each point -/

/-- The input blocks of point `t`. -/
def insAt (c : Dev nD) (t : Fin cfg1.N) : Ins F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t⟩

/-- A state to start from (nothing of it is ever read: the first point resets all of it). -/
def St0 : Acc F :=
  ⟨k1_pay8, k1_pay9, fun _ => FloatOps.ofBits .bf16 0#16, fun _ => FloatOps.ofBits .bf16 0#16, fun _ => FloatOps.ofBits .bf16 0#16, k1_pay14, k1_pay15, k1_pay7⟩

/-- The state before point `n`. -/
def St (c : Dev nD) : ℕ → Acc F
  | 0 => St0
  | n + 1 => if h : n < cfg1.N then step (grid1.coords ⟨n, h⟩) (insAt V c ⟨n, h⟩) (St c n) else St c n

theorem St_succ (c : Dev nD) (t : Fin cfg1.N) : St V c (t.val + 1) = step (grid1.coords t) (insAt V c t) (St V c t.val) := by
  rw [St, dif_pos t.isLt]

/-! ## The proof data -/

/-- The region's invariant at a state: the scratch buffers at the state's contents, every other scoped buffer that is no
    staging buffer of this call at anything, the generator register at some state. -/
def PhiAt (c : Dev nD) (s : Acc F) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) (Memref.whole cc1_scratch0) fullShare s.xa ∗ owns (c : Thread nD τ) (Memref.whole cc1_scratch1) fullShare s.xat ∗ owns (c : Thread nD τ) (Memref.whole cc1_scratch2) fullShare s.dx ∗ owns (c : Thread nD τ) (Memref.whole cc1_scratch3) fullShare s.gbt ∗ owns (c : Thread nD τ) (Memref.whole cc1_scratch4) fullShare s.dla) ∗ (∃ r, prngReg c r))

/-- The launch's form of the invariant, with the scratch buffers as memrefs owned at some contents. -/
theorem PhiA1_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d)) ∗ (∃ r, prngReg c r)) := by
  unfold Pipeline.ΦA; rw [scopedRest1_eq]; simp only [owns_whole]; try rfl

/-- The invariant before position `n`: the launch's before the first point, the state's afterwards. -/
def PhiS (c : Dev nD) : ℕ → sProp 𝕄
  | 0 => Pipeline.ΦA spec1 c
  | n + 1 => PhiAt c (St V c (n + 1))

/-- Before any point the invariant holds at some state, which is `St`'s unless the point is the first. -/
theorem PhiS_state (c : Dev nD) (n : ℕ) : PhiS V c n ⊢ iprop(∃ s : Acc F, ⌜n ≠ 0 → s = St V c n⌝ ∗ PhiAt c s) := by
  cases n with
  | zero =>
    unfold PhiS PhiAt
    rw [PhiA1_eq]
    iintro ⟨⟨A0, A1, A2, A3, A4, A5, A6, A7, A8, A9, A10, A11, A12, ⟨%e0, S0⟩, ⟨%e1, S1⟩, ⟨%e2, S2⟩, ⟨%e3, S3⟩, ⟨%e4, S4⟩⟩, Hg⟩
    iexists (⟨k1_pay8, k1_pay9, e0, e0, e1, e2, e3, e4⟩ : Acc F)
    isplitr; · ipureintro; exact fun h => absurd rfl h
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [S0]; · iexact S0
      isplitl [S1]; · iexact S1
      isplitl [S2]; · iexact S2
      isplitl [S3]; · iexact S3
      iexact S4
    iexact Hg
  | succ n =>
    unfold PhiS
    iintro H
    iexists (St V c (n + 1))
    isplitr; · ipureintro; exact fun _ => rfl
    iexact H

/-- At any state the invariant gives the launch's form back. -/
theorem PhiAt_out (c : Dev nD) (s : Acc F) : PhiAt c s ⊢ (Pipeline.ΦA spec1 c : sProp 𝕄) := by
  unfold PhiAt
  rw [PhiA1_eq]
  iintro ⟨⟨A0, A1, A2, A3, A4, A5, A6, A7, A8, A9, A10, A11, A12, S0, S1, S2, S3, S4⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [S0]; · iexists _; iexact S0
    isplitl [S1]; · iexists _; iexact S1
    isplitl [S2]; · iexists _; iexact S2
    isplitl [S3]; · iexists _; iexact S3
    iexists _; iexact S4
  iexact Hg

/-- The proof data of the backward call on core `c`: the arrays as the region finds them; after point `t` each input's
    buffer at its block and each output's at what the state the point leaves says; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay3 (St V c (t.val + 1)).gbt (St V c (t.val + 1)).dx (insAt V c t).la
    | ⟨11, _⟩ => k1_pay5 (St V c (t.val + 1)).dla
    | ⟨12, _⟩ => (St V c (t.val + 1)).dlbt
    | ⟨13, _⟩ => (St V c (t.val + 1)).dm
    | ⟨14, _⟩ => zB (grid1.coords t) (insAt V c t).w (insAt V c t).ws (insAt V c t).x (St V c (t.val + 1)).xa (insAt V c t).lb
    | ⟨15, _⟩ => (St V c (t.val + 1)).xo
    | ⟨16, _⟩ => k1_pay2 (St V c (t.val + 1)).gbt
    | ⟨_ + 17, h⟩ => absurd h (Nat.not_lt.2 (Nat.le_add_left _ _))
  Φ t := PhiS V c t.val
  q _ := fullShare
  owed _ := 0

theorem A_eq1 (c : Dev nD) (w : Fin cfg1.W) : (dat1 V c).A w = V c (Pipeline.arrRef spec1 w) := by
  dsimp only [dat1]

/-! What the body leaves, window by window. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = k1_pay3 (St V c (t.val + 1)).gbt (St V c (t.val + 1)).dx (insAt V c t).la := by dsimp only [dat1]
theorem after1_11 (c : Dev nD) (t : Fin cfg1.N) : (dat1 V c).after 11 t = k1_pay5 (St V c (t.val + 1)).dla := by dsimp only [dat1]
theorem after1_12 (c : Dev nD) (t : Fin cfg1.N) : (dat1 V c).after 12 t = (St V c (t.val + 1)).dlbt := by dsimp only [dat1]
theorem after1_13 (c : Dev nD) (t : Fin cfg1.N) : (dat1 V c).after 13 t = (St V c (t.val + 1)).dm := by dsimp only [dat1]
theorem after1_14 (c : Dev nD) (t : Fin cfg1.N) : (dat1 V c).after 14 t = zB (grid1.coords t) (insAt V c t).w (insAt V c t).ws (insAt V c t).x (St V c (t.val + 1)).xa (insAt V c t).lb := by dsimp only [dat1]
theorem after1_15 (c : Dev nD) (t : Fin cfg1.N) : (dat1 V c).after 15 t = (St V c (t.val + 1)).xo := by dsimp only [dat1]
theorem after1_16 (c : Dev nD) (t : Fin cfg1.N) : (dat1 V c).after 16 t = k1_pay2 (St V c (t.val + 1)).gbt := by dsimp only [dat1]

/-! What the body finds, window by window. -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Window 12's buffer is written back at the last point only, so after the first point it holds what the state says. -/
theorem fresh1_12 (n : ℕ) (h : n ≤ cfg1.N) : cfg1.fresh 12 n = decide (n = 0 ∨ n = 448) := by
  refine cfg1.fresh_tab 12 (fun n => decide (n = 0 ∨ n = 448)) (by decide) (fun t => ?_) n h
  have ht : t.val < 448 := Nat.lt_of_lt_of_eq t.isLt N_1
  rw [show cfg1.idle 12 (cfg1.grid.coords t) = false from rfl, Bool.false_and, Bool.or_false, Bool.eq_iff_iff, flush1_12 t, decide_eq_true_iff]
  omega
theorem before1_12 (c : Dev nD) (t : Fin cfg1.N) (ht0 : t.val ≠ 0) (d) : (dat1 V c).before 12 t d = (St V c t.val).dlbt := by
  have ht : t.val < 448 := Nat.lt_of_lt_of_eq t.isLt N_1
  rw [(dat1 V c).before_out_traj 12 rfl (fun _ _ => rfl) (fun t _ hi => absurd hi (by rw [show cfg1.idle 12 (cfg1.grid.coords t) = false from rfl]; exact Bool.false_ne_true)) t.val t rfl d,
    if_neg (by rw [fresh1_12 t.val (Nat.le_of_lt t.isLt), decide_eq_true_iff]; omega), after1_12]
  rw [show t.val - 1 + 1 = t.val from by omega]

/-- Window 13's buffer is written back at the last point only, so after the first point it holds what the state says. -/
theorem fresh1_13 (n : ℕ) (h : n ≤ cfg1.N) : cfg1.fresh 13 n = decide (n = 0 ∨ n = 448) := by
  refine cfg1.fresh_tab 13 (fun n => decide (n = 0 ∨ n = 448)) (by decide) (fun t => ?_) n h
  have ht : t.val < 448 := Nat.lt_of_lt_of_eq t.isLt N_1
  rw [show cfg1.idle 13 (cfg1.grid.coords t) = false from rfl, Bool.false_and, Bool.or_false, Bool.eq_iff_iff, flush1_13 t, decide_eq_true_iff]
  omega
theorem before1_13 (c : Dev nD) (t : Fin cfg1.N) (ht0 : t.val ≠ 0) (d) : (dat1 V c).before 13 t d = (St V c t.val).dm := by
  have ht : t.val < 448 := Nat.lt_of_lt_of_eq t.isLt N_1
  rw [(dat1 V c).before_out_traj 13 rfl (fun _ _ => rfl) (fun t _ hi => absurd hi (by rw [show cfg1.idle 13 (cfg1.grid.coords t) = false from rfl]; exact Bool.false_ne_true)) t.val t rfl d,
    if_neg (by rw [fresh1_13 t.val (Nat.le_of_lt t.isLt), decide_eq_true_iff]; omega), after1_13]
  rw [show t.val - 1 + 1 = t.val from by omega]

/-- Window 15's buffer is stored at a token block's first point and written back at its last. -/
theorem idle1_15 (t : Fin cfg1.N) : cfg1.idle 15 (cfg1.grid.coords t) = true ↔ ¬ t.val % 7 = 0 := by
  rw [show cfg1.idle 15 (cfg1.grid.coords t) = !(k1_cond2 (grid1.coords t) == 1#1) from rfl, ← cond2_iff t]
  simp
theorem fresh1_15 (n : ℕ) (h : n ≤ cfg1.N) : cfg1.fresh 15 n = decide (n % 7 = 0) := by
  refine cfg1.fresh_tab 15 (fun n => decide (n % 7 = 0)) (by decide) (fun t => ?_) n h
  rw [Bool.eq_iff_iff, Bool.or_eq_true, Bool.and_eq_true, idle1_15 t, flush1_15 t, decide_eq_true_iff, decide_eq_true_iff]
  omega
/-- Away from a token block's first point `xa` stays. -/
theorem St_xo (c : Dev nD) (t : Fin cfg1.N) (h : ¬ t.val % 7 = 0) : (St V c (t.val + 1)).xo = (St V c t.val).xo := by
  rw [St_succ, step_xo]
  exact if_neg (fun e => h ((cond2_iff t).mp e))
theorem before1_15 (c : Dev nD) (t : Fin cfg1.N) (ht7 : ¬ t.val % 7 = 0) (d) : (dat1 V c).before 15 t d = (St V c t.val).xo := by
  rw [(dat1 V c).before_out_traj 15 rfl (fun _ _ => rfl) (fun t h0 hi _ => by
      rw [after1_15, after1_15, St_xo V c t ((idle1_15 t).mp hi)]
      show _ = (St V c (t.val - 1 + 1)).xo
      rw [show t.val - 1 + 1 = t.val from by omega]) t.val t rfl d,
    if_neg (by rw [fresh1_15 t.val (Nat.le_of_lt t.isLt), decide_eq_true_iff]; exact ht7), after1_15]
  show (St V c (t.val - 1 + 1)).xo = _
  rw [show t.val - 1 + 1 = t.val from by omega]

/-! ## What the obligation asks back, window by window -/

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) : (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) : (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) : (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) : (dat1 V c).leavesExact 9 t = owns (c : Thread nD τ) (st1_9 t) fullShare (iblk1 V c 9 t) := by
  unfold Dat.leavesExact; rw [show cfg1.idle 9 (cfg1.grid.coords t) = false from rfl, after1_9]
theorem leaves1_12 (c : Dev nD) (t : Fin cfg1.N) : (dat1 V c).leavesExact 12 t = owns (c : Thread nD τ) (st1_12 t) fullShare ((St V c (t.val + 1)).dlbt) := by
  unfold Dat.leavesExact; rw [show cfg1.idle 12 (cfg1.grid.coords t) = false from rfl, after1_12]
theorem leaves1_13 (c : Dev nD) (t : Fin cfg1.N) : (dat1 V c).leavesExact 13 t = owns (c : Thread nD τ) (st1_13 t) fullShare ((St V c (t.val + 1)).dm) := by
  unfold Dat.leavesExact; rw [show cfg1.idle 13 (cfg1.grid.coords t) = false from rfl, after1_13]
theorem leaves1_14 (c : Dev nD) (t : Fin cfg1.N) : (dat1 V c).leavesExact 14 t = owns (c : Thread nD τ) (st1_14 t) fullShare (zB (grid1.coords t) (insAt V c t).w (insAt V c t).ws (insAt V c t).x (St V c (t.val + 1)).xa (insAt V c t).lb) := by
  unfold Dat.leavesExact; rw [show cfg1.idle 14 (cfg1.grid.coords t) = false from rfl, after1_14]
theorem leaves1_10 (c : Dev nD) (t : Fin cfg1.N) (d) :
    owns (c : Thread nD τ) (st1_10 t) fullShare (if k1_cond3 (grid1.coords t) = 1#1 then k1_pay3 (St V c (t.val + 1)).gbt (St V c (t.val + 1)).dx (insAt V c t).la else (dat1 V c).before 10 t d) ⊢ (dat1 V c).leavesExact 10 t := by
  by_cases h : k1_cond3 (grid1.coords t) = 1#1
  · rw [if_pos h]
    unfold Dat.leavesExact
    rw [show cfg1.idle 10 (cfg1.grid.coords t) = false from by
      rw [show cfg1.idle 10 (cfg1.grid.coords t) = !(k1_cond3 (grid1.coords t) == 1#1) from rfl, h]; rfl, after1_10]
  · rw [if_neg h, Dat.leavesExact_idle (dat1 V c) 10 t
      (by rw [show cfg1.idle 10 (cfg1.grid.coords t) = !(k1_cond3 (grid1.coords t) == 1#1) from rfl]; simpa using h)
      (by rw [← Bool.not_eq_true, flush1_10 t, ← cond3_iff t]; exact h)]
    iintro H; iexists d; iexact H
theorem leaves1_11 (c : Dev nD) (t : Fin cfg1.N) (d) :
    owns (c : Thread nD τ) (st1_11 t) fullShare (if k1_cond4 (grid1.coords t) = 1#1 then k1_pay5 (St V c (t.val + 1)).dla else (dat1 V c).before 11 t d) ⊢ (dat1 V c).leavesExact 11 t := by
  by_cases h : k1_cond4 (grid1.coords t) = 1#1
  · rw [if_pos h]
    unfold Dat.leavesExact
    rw [show cfg1.idle 11 (cfg1.grid.coords t) = false from by
      rw [show cfg1.idle 11 (cfg1.grid.coords t) = !(k1_cond4 (grid1.coords t) == 1#1) from rfl, h]; rfl, after1_11]
  · rw [if_neg h, Dat.leavesExact_idle (dat1 V c) 11 t
      (by rw [show cfg1.idle 11 (cfg1.grid.coords t) = !(k1_cond4 (grid1.coords t) == 1#1) from rfl]; simpa using h)
      (by rw [← Bool.not_eq_true, flush1_11 t, ← cond4_iff t]; exact h)]
    iintro H; iexists d; iexact H
theorem leaves1_16 (c : Dev nD) (t : Fin cfg1.N) (d) :
    owns (c : Thread nD τ) (st1_16 t) fullShare (if k1_cond3 (grid1.coords t) = 1#1 then k1_pay2 (St V c (t.val + 1)).gbt else (dat1 V c).before 16 t d) ⊢ (dat1 V c).leavesExact 16 t := by
  by_cases h : k1_cond3 (grid1.coords t) = 1#1
  · rw [if_pos h]
    unfold Dat.leavesExact
    rw [show cfg1.idle 16 (cfg1.grid.coords t) = false from by
      rw [show cfg1.idle 16 (cfg1.grid.coords t) = !(k1_cond3 (grid1.coords t) == 1#1) from rfl, h]; rfl, after1_16]
  · rw [if_neg h, Dat.leavesExact_idle (dat1 V c) 16 t
      (by rw [show cfg1.idle 16 (cfg1.grid.coords t) = !(k1_cond3 (grid1.coords t) == 1#1) from rfl]; simpa using h)
      (by rw [← Bool.not_eq_true, flush1_16 t, ← cond3_iff t]; exact h)]
    iintro H; iexists d; iexact H
theorem leaves1_15 (c : Dev nD) (t : Fin cfg1.N) (d : (cfg1.win 15).block.Idx → Elt F (cfg1.win 15).elt) :
    iprop(owns (c : Thread nD τ) (st1_15 t) fullShare (St V c (t.val + 1)).xo) ⊢ (dat1 V c).leavesExact 15 t := by
  by_cases h : t.val % 7 = 0
  · unfold Dat.leavesExact
    rw [show cfg1.idle 15 (cfg1.grid.coords t) = false from by rw [← Bool.not_eq_true, idle1_15 t]; exact fun e => e h, after1_15]
  · by_cases h6 : t.val % 7 = 6
    · unfold Dat.leavesExact
      rw [(idle1_15 t).mpr h, (flush1_15 t).mpr h6, after1_15]
    · rw [Dat.leavesExact_idle (dat1 V c) 15 t ((idle1_15 t).mpr h) (by rw [← Bool.not_eq_true, flush1_15 t]; exact h6)]
      iintro H
      iexists d
      rw [before1_15 V c t h, St_xo V c t h]
      iexact H

/-! ## The body obligation -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- What the body must leave there. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t)

set_option maxHeartbeats 4000000 in
/-- The body at any point: the state the invariant and the carried staging buffers hold is, where the point reads it, the
    state before the point, so `body_spec` leaves the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = PhiAt c (St V c (t.val + 1)) from rfl,
    show (dat1 V c).Φ t.castSucc = PhiS V c t.val from rfl,
    show (dat1 V c).owesAt () t.succ = (dat1 V c).owesAt () t.castSucc from rfl,
    leaves1_0, leaves1_1, leaves1_2, leaves1_3, leaves1_4, leaves1_5, leaves1_6, leaves1_7, leaves1_8, leaves1_9, leaves1_12, leaves1_13, leaves1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  ihave HΦ' := PhiS_state V c t.val $$ HΦ
  icases HΦ' with ⟨%s, %hs, HΦ⟩
  have hstep : step (grid1.coords t) (insAt V c t)
      { s with dlbt := (dat1 V c).before 12 t d12, dm := (dat1 V c).before 13 t d13, xo := (dat1 V c).before 15 t d15 } = St V c (t.val + 1) := by
    rw [St_succ]
    have ht : t.val < 448 := Nat.lt_of_lt_of_eq t.isLt N_1
    refine step_congr _ _ _ _ (fun h => ?_) (fun h => ?_)
    · have h0 : t.val ≠ 0 := fun e => h ((cond1_iff t).mpr (by omega))
      exact ⟨before1_12 V c t h0 d12, before1_13 V c t h0 d13, (congrArg Acc.dla (hs h0) : s.dla = _)⟩
    · have h7 : ¬ t.val % 7 = 0 := fun e => h ((cond2_iff t).mpr e)
      have h0 : t.val ≠ 0 := fun e => h7 (by rw [e])
      exact ⟨before1_15 V c t h7 d15, (congrArg Acc.xa (hs h0) : s.xa = _), (congrArg Acc.xat (hs h0) : s.xat = _), (congrArg Acc.dx (hs h0) : s.dx = _), (congrArg Acc.gbt (hs h0) : s.gbt = _)⟩
  unfold PhiAt
  icases HΦ with ⟨⟨A0, A1, A2, A3, A4, A5, A6, A7, A8, A9, A10, A11, A12, S0, S1, S2, S3, S4⟩, Hg⟩
  iapply (body_spec c Set.univ (grid1.coords t) _ _ _ _ _ _ _ _ _ _ _ _ _ _ _ _ _ _ _ _ _ _ _ _ _ _ _ _ _ _ _ _ _ _ _ _ _ _ _ _ _ _ _ _ (insAt V c t)
    { s with dlbt := (dat1 V c).before 12 t d12, dm := (dat1 V c).before 13 t d13, xo := (dat1 V c).before 15 t d15 }
    ((dat1 V c).before 10 t d10) ((dat1 V c).before 11 t d11) ((dat1 V c).before 14 t d14) ((dat1 V c).before 16 t d16) _)
  rw [hstep]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, S0, S1, S2, S3, S4⟩
  isplitl [Hg S0 S1 S2 S3 S4 A0 A1 A2 A3 A4 A5 A6 A7 A8 A9 A10 A11 A12]
  · isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves1_10 V c t d10); iexact H10
  isplitl [H11]; · iapply (leaves1_11 V c t d11); iexact H11
  isplitl [H12]; · iexact H12
  isplitl [H13]; · iexact H13
  isplitl [H14]; · iexact H14
  isplitl [H15]; · iapply (leaves1_15 V c t d15); iexact H15
  iapply (leaves1_16 V c t d16); iexact H16

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : (Pipeline.ΦA spec1 c : sProp 𝕄) ⊢ (dat1 V c).Φ 0 := by
  rw [show (dat1 V c).Φ 0 = (Pipeline.ΦA spec1 c : sProp 𝕄) from rfl]

/-- The invariant after the last point gives the launch's form back. -/
theorem hout1 (c : Dev nD) : (dat1 V c).Φ (Fin.last cfg1.N) ⊢ (Pipeline.ΦA spec1 c : sProp 𝕄) := by
  rw [show (dat1 V c).Φ (Fin.last cfg1.N) = PhiS V c cfg1.N from rfl, show cfg1.N = 447 + 1 from N_1]
  exact PhiAt_out c _

end Cert.Kernel.Body
-- ==== Proof.Kernel.Region0.lean ====
module

public import proofs.«01_k».proof.Proof.Kernel.Region1

/-! # The norm call: what it leaves, and its body obligation

At contents `V` of the buffers when the call is entered: the blocks of its inputs, what the body leaves in the two
outputs' staging buffers (`out0_5`, `out0_6`), the pipeline's proof data and its body obligation. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_weight_norm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1280x1536 := Rect.unit (s := S1280x1536) ![0, 0] S1280x1536.size inb_S1280x1536_S1280x1536_0_0
abbrev r0_1 : Rect S1280x1 := Rect.unit (s := S1280x1) ![0, 0] S1280x1.size inb_S1280x1_S1280x1_0_0
abbrev r0_2 : Rect S1280x32 := Rect.unit (s := S1280x32) ![0, 0] S1280x32.size inb_S1280x32_S1280x32_0_0
abbrev r0_3 : Rect S32x1536 := Rect.unit (s := S32x1536) ![0, 0] S32x1536.size inb_S32x1536_S32x1536_0_0
abbrev r0_4 : Rect S1x1280 := Rect.unit (s := S1x1280) ![0, 0] S1x1280.size inb_S1x1280_S1x1280_0_0

/-! ## What the body leaves in each output window's buffer -/

/-- Window 5's staging buffer after the body, from the input windows' blocks: its 1 store as pieces, LAST
    FIRST (Lib/Pipeline/FrameBody.lean `View.canon`; the payloads are the skeleton's). -/
def out0_5 (x0 : Vec F S1280x1536 .fp8e4m3) (x1 : Vec F S1280x1 .f32) (x2 : Vec F S32x1536 .bf16) (x3 : Vec F S1280x32 .bf16) (x4 : Vec F S1x1280 .f32) : Vec F S1x1280 .f32 :=
  View.canon [⟨r0_4, k0_pay1 (View.ld x0 r0_0) (View.ld x1 r0_1) (View.ld x3 r0_2) (View.ld x2 r0_3)⟩]

/-- Its stores tile the buffer (checked by evaluation), so they cover it. -/
theorem cover0_5 (p0 : Vec F S1x1280 .f32) (y : S1x1280.Idx) :
    ∃ pc ∈ ([⟨r0_4, p0⟩] : List (View.Piece (Elt F) S1x1280 .f32)), y ∈ pc.1.set :=
  View.cover_of_tiled [⟨r0_4, p0⟩] S1x1280.size (by rfl) y

/-- Window 6's staging buffer after the body, from the input windows' blocks: its 1 store as pieces, LAST
    FIRST (Lib/Pipeline/FrameBody.lean `View.canon`; the payloads are the skeleton's). -/
def out0_6 (x0 : Vec F S1280x1536 .fp8e4m3) (x1 : Vec F S1280x1 .f32) (x2 : Vec F S32x1536 .bf16) (x3 : Vec F S1280x32 .bf16) (x4 : Vec F S1x1280 .f32) : Vec F S1x1280 .f32 :=
  View.canon [⟨r0_4, k0_pay2 (View.ld x0 r0_0) (View.ld x1 r0_1) (View.ld x3 r0_2) (View.ld x2 r0_3) (View.ld x4 r0_4)⟩]

/-- Its stores tile the buffer (checked by evaluation), so they cover it. -/
theorem cover0_6 (p0 : Vec F S1x1280 .f32) (y : S1x1280.Idx) :
    ∃ pc ∈ ([⟨r0_4, p0⟩] : List (View.Piece (Elt F) S1x1280 .f32)), y ∈ pc.1.set :=
  View.cover_of_tiled [⟨r0_4, p0⟩] S1x1280.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1280x1536 .fp8e4m3) (harg1 : arg1.IsWhole) (arg2 : Memref sig .tc .vmem S1280x1 .f32) (harg2 : arg2.IsWhole) (arg3 : Memref sig .tc .vmem S32x1536 .bf16) (harg3 : arg3.IsWhole) (arg4 : Memref sig .tc .vmem S1280x32 .bf16) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole)
    (x0 : Vec F S1280x1536 .fp8e4m3) (x1 : Vec F S1280x1 .f32) (x2 : Vec F S32x1536 .bf16) (x3 : Vec F S1280x32 .bf16) (x4 : Vec F S1x1280 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_weight_norm i arg1 harg1 arg2 harg2 arg3 harg3 arg4 harg4 arg5 harg5 arg6 harg6 arg7 harg7) K := by
  simp only [cc0_weight_norm_eq_skeleton]; unfold cc0_weight_norm_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.Kernel.Body

end
-- ==== Proof.Kernel.Compose.lean ====
module

public import proofs.«01_k».proof.Proof.Kernel.Region0

/-! # The program, from the launch to the return

The contents of the buffers at every boundary of @main (`W0` … `W5`: a stretch of host operations or a call at a time),
the two calls as segments over them, and the run of the whole program: every buffer ends at `W5`. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12, main_v13, main_v14, main_v15]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and every
    final state has each unscoped buffer at the last boundary's contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c),
     (h.1 c _ (mem_uc main_arg7 (by decide))).trans (W5_main_arg7 m ρ c)⟩, h.2⟩) (run_all m ρ)

end Cert.Kernel.Body

end
-- ==== Proof.KernelIdeal.Blocks.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.WholeRead
public import Idealize.ShloMosaic.Lib.Ring
public import Idealize.ShloMosaic.Lib.Tactic
public import Idealize.ShloMosaic.Lib.WordCmp

/-! # The backward kernel's body, as five blocks and their triples

The body of the second call is a straight stretch between four conditional blocks. Each is a definition here
(`blk1`, `blk2`, `blkM`, `blk3`, `blk4`), the printed body is their sequence (`body_eq_blocks`), and each has one triple
at whole staging memrefs: what the block leaves in the buffers it writes is a function (`if` on the block's condition)
of what it found. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional: the grid's first point. -/
abbrev cond1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-! ## The blocks -/

/-- Conditional block 1: zero the accumulators of the whole run. -/
def blk1 (i : grid1.Coords) (arg14 : Memref sig .tc .vmem S32x8960 .f32) (harg14 : arg14.IsWhole) (arg15 : Memref sig .tc .vmem S1x8960 .f32) (harg15 : arg15.IsWhole) (arg23 : Memref sig .tc .vmem S32x1536 .f32) (harg23 : arg23.IsWhole) : Prog (TpuEff nD τ sig (Elt F) Λ₀ .tc) PUnit := do
  if _h : (Scalar.cmpi .ne (Scalar.extui (Scalar.andi (Scalar.cmpi .eq (BitVec.ofNat 32 (i 0).val) 0#32) (Scalar.cmpi .eq (BitVec.ofNat 32 (i 1).val) 0#32))) 0#32) = 1#1 then do
    let v85 : Vec F S32x1536 .f32 ← Prog.lift (.load arg23 (Rect.unit (s := S32x1536) ![0, 0] S32x1536.size inb_S32x1536_S32x1536_0_0).toLoadRect (View.loadsAt_vmem h_S32x1536))
    Prog.lift (.store arg23 (Rect.unit (s := S32x1536) ![0, 0] S32x1536.size inb_S32x1536_S32x1536_0_0) (k1_pay7 (F := F)) Finset.univ (View.stores_vmem_bits_univ h_S32x1536 rfl) (.inl rfl))
    let v89 : Vec F S32x8960 .f32 ← Prog.lift (.load arg14 (Rect.unit (s := S32x8960) ![0, 0] S32x8960.size inb_S32x8960_S32x8960_0_0).toLoadRect (View.loadsAt_vmem h_S32x8960))
    Prog.lift (.store arg14 (Rect.unit (s := S32x8960) ![0, 0] S32x8960.size inb_S32x8960_S32x8960_0_0) (k1_pay8 (F := F)) Finset.univ (View.stores_vmem_bits_univ h_S32x8960 rfl) (.inl rfl))
    let v91 : Vec F S1x8960 .f32 ← Prog.lift (.load arg15 (Rect.unit (s := S1x8960) ![0, 0] S1x8960.size inb_S1x8960_S1x8960_0_0).toLoadRect (View.loadsAt_vmem h_S1x8960))
    Prog.lift (.store arg15 (Rect.unit (s := S1x8960) ![0, 0] S1x8960.size inb_S1x8960_S1x8960_0_0) (k1_pay9 (F := F)) Finset.univ (View.stores_vmem_bits_univ h_S1x8960 rfl) (.inl rfl))
    pure ⟨⟩
  else do
    pure ⟨⟩

/-- Conditional block 2: `x·laᵀ` of the token block and the zeroed accumulators of the token block. -/
def blk2 (i : grid1.Coords) (arg2 : Memref sig .tc .vmem S512x1536 .bf16) (harg2 : arg2.IsWhole) (arg5 : Memref sig .tc .vmem S32x1536 .bf16) (harg5 : arg5.IsWhole) (arg17 : Memref sig .tc .vmem S512x32 .bf16) (harg17 : arg17.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) : Prog (TpuEff nD τ sig (Elt F) Λ₀ .tc) PUnit := do
  if _h : k1_cond2 i = 1#1 then do
    let v84 : Vec F S512x1536 .bf16 ← Prog.lift (.load arg2 (Rect.unit (s := S512x1536) ![0, 0] S512x1536.size inb_S512x1536_S512x1536_0_0).toLoadRect (View.loadsAt_vmem h_S512x1536))
    let v86 : Vec F S32x1536 .bf16 ← Prog.lift (.load arg5 (Rect.unit (s := S32x1536) ![0, 0] S32x1536.size inb_S32x1536_S32x1536_0_0).toLoadRect (View.loadsAt_vmem h_S32x1536))
    let v89 : Vec F S512x32 .bf16 ← Prog.lift (.load arg19 (Rect.unit (s := S512x32) ![0, 0] S512x32.size inb_S512x32_S512x32_0_0).toLoadRect (View.loadsAt_vmem h_S512x32))
    Prog.lift (.store arg19 (Rect.unit (s := S512x32) ![0, 0] S512x32.size inb_S512x32_S512x32_0_0) (k1_pay11 v84 v86) Finset.univ (View.stores_vmem h_S512x32 (harg19.storeExact_slice rfl _ packedbf16_S512x32_S512x32_0_0) (fun _ => rfl)) (.inl rfl))
    let v94 : Vec F S32x512 .bf16 ← Prog.lift (.load arg20 (Rect.unit (s := S32x512) ![0, 0] S32x512.size inb_S32x512_S32x512_0_0).toLoadRect (View.loadsAt_vmem h_S32x512))
    Prog.lift (.store arg20 (Rect.unit (s := S32x512) ![0, 0] S32x512.size inb_S32x512_S32x512_0_0) (k1_pay12 v84 v86) Finset.univ (View.stores_vmem h_S32x512 (harg20.storeExact_slice rfl _ packedbf16_S32x512_S32x512_0_0) (fun _ => rfl)) (.inl rfl))
    let v98 : Vec F S512x32 .bf16 ← Prog.lift (.load arg17 (Rect.unit (s := S512x32) ![0, 0] S512x32.size inb_S512x32_S512x32_0_0).toLoadRect (View.loadsAt_vmem h_S512x32))
    Prog.lift (.store arg17 (Rect.unit (s := S512x32) ![0, 0] S512x32.size inb_S512x32_S512x32_0_0) (k1_pay13 v84 v86) Finset.univ (View.stores_vmem h_S512x32 (harg17.storeExact_slice rfl _ packedbf16_S512x32_S512x32_0_0) (fun _ => rfl)) (.inl rfl))
    let v100 : Vec F S512x1536 .f32 ← Prog.lift (.load arg21 (Rect.unit (s := S512x1536) ![0, 0] S512x1536.size inb_S512x1536_S512x1536_0_0).toLoadRect (View.loadsAt_vmem h_S512x1536))
    Prog.lift (.store arg21 (Rect.unit (s := S512x1536) ![0, 0] S512x1536.size inb_S512x1536_S512x1536_0_0) (k1_pay14 (F := F)) Finset.univ (View.stores_vmem_bits_univ h_S512x1536 rfl) (.inl rfl))
    let v104 : Vec F S32x512 .f32 ← Prog.lift (.load arg22 (Rect.unit (s := S32x512) ![0, 0] S32x512.size inb_S32x512_S32x512_0_0).toLoadRect (View.loadsAt_vmem h_S32x512))
    Prog.lift (.store arg22 (Rect.unit (s := S32x512) ![0, 0] S32x512.size inb_S32x512_S32x512_0_0) (k1_pay15 (F := F)) Finset.univ (View.stores_vmem_bits_univ h_S32x512 rfl) (.inl rfl))
    pure ⟨⟩
  else do
    pure ⟨⟩

/-- Conditional block 3: the token block's results, and its part of `d_lora_a`. -/
def blk3 (i : grid1.Coords) (arg2 : Memref sig .tc .vmem S512x1536 .bf16) (harg2 : arg2.IsWhole) (arg5 : Memref sig .tc .vmem S32x1536 .bf16) (harg5 : arg5.IsWhole) (arg12 : Memref sig .tc .vmem S512x1536 .bf16) (harg12 : arg12.IsWhole) (arg18 : Memref sig .tc .vmem S512x32 .bf16) (harg18 : arg18.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) : Prog (TpuEff nD τ sig (Elt F) Λ₀ .tc) PUnit := do
  if _h : k1_cond3 i = 1#1 then do
    let v84 : Vec F S32x512 .f32 ← Prog.lift (.load arg22 (Rect.unit (s := S32x512) ![0, 0] S32x512.size inb_S32x512_S32x512_0_0).toLoadRect (View.loadsAt_vmem h_S32x512))
    let v86 : Vec F S32x512 .f32 ← Prog.lift (.load arg22 (Rect.unit (s := S32x512) ![0, 0] S32x512.size inb_S32x512_S32x512_0_0).toLoadRect (View.loadsAt_vmem h_S32x512))
    let v89 : Vec F S512x32 .bf16 ← Prog.lift (.load arg18 (Rect.unit (s := S512x32) ![0, 0] S512x32.size inb_S512x32_S512x32_0_0).toLoadRect (View.loadsAt_vmem h_S512x32))
    Prog.lift (.store arg18 (Rect.unit (s := S512x32) ![0, 0] S512x32.size inb_S512x32_S512x32_0_0) (k1_pay2 v86) Finset.univ (View.stores_vmem h_S512x32 (harg18.storeExact_slice rfl _ packedbf16_S512x32_S512x32_0_0) (fun _ => rfl)) (.inl rfl))
    let v90 : Vec F S512x1536 .f32 ← Prog.lift (.load arg21 (Rect.unit (s := S512x1536) ![0, 0] S512x1536.size inb_S512x1536_S512x1536_0_0).toLoadRect (View.loadsAt_vmem h_S512x1536))
    let v91 : Vec F S32x1536 .bf16 ← Prog.lift (.load arg5 (Rect.unit (s := S32x1536) ![0, 0] S32x1536.size inb_S32x1536_S32x1536_0_0).toLoadRect (View.loadsAt_vmem h_S32x1536))
    let v95 : Vec F S512x1536 .bf16 ← Prog.lift (.load arg12 (Rect.unit (s := S512x1536) ![0, 0] S512x1536.size inb_S512x1536_S512x1536_0_0).toLoadRect (View.loadsAt_vmem h_S512x1536))
    Prog.lift (.store arg12 (Rect.unit (s := S512x1536) ![0, 0] S512x1536.size inb_S512x1536_S512x1536_0_0) (k1_pay3 v86 v90 v91) Finset.univ (View.stores_vmem h_S512x1536 (harg12.storeExact_slice rfl _ packedbf16_S512x1536_S512x1536_0_0) (fun _ => rfl)) (.inl rfl))
    let v96 : Vec F S32x1536 .f32 ← Prog.lift (.load arg23 (Rect.unit (s := S32x1536) ![0, 0] S32x1536.size inb_S32x1536_S32x1536_0_0).toLoadRect (View.loadsAt_vmem h_S32x1536))
    let v97 : Vec F S512x1536 .bf16 ← Prog.lift (.load arg2 (Rect.unit (s := S512x1536) ![0, 0] S512x1536.size inb_S512x1536_S512x1536_0_0).toLoadRect (View.loadsAt_vmem h_S512x1536))
    let v101 : Vec F S32x1536 .f32 ← Prog.lift (.load arg23 (Rect.unit (s := S32x1536) ![0, 0] S32x1536.size inb_S32x1536_S32x1536_0_0).toLoadRect (View.loadsAt_vmem h_S32x1536))
    Prog.lift (.store arg23 (Rect.unit (s := S32x1536) ![0, 0] S32x1536.size inb_S32x1536_S32x1536_0_0) (k1_pay4 v84 v96 v97) Finset.univ (View.stores_vmem_bits_univ h_S32x1536 rfl) (.inl rfl))
    pure ⟨⟩
  else do
    pure ⟨⟩

/-- Conditional block 4: the results of the whole run. -/
def blk4 (i : grid1.Coords) (arg8 : Memref sig .tc .vmem S1x8960 .f32) (harg8 : arg8.IsWhole) (arg13 : Memref sig .tc .vmem S32x1536 .bf16) (harg13 : arg13.IsWhole) (arg15 : Memref sig .tc .vmem S1x8960 .f32) (harg15 : arg15.IsWhole) (arg23 : Memref sig .tc .vmem S32x1536 .f32) (harg23 : arg23.IsWhole) : Prog (TpuEff nD τ sig (Elt F) Λ₀ .tc) PUnit := do
  if _h : k1_cond4 i = 1#1 then do
    let v84 : Vec F S32x1536 .f32 ← Prog.lift (.load arg23 (Rect.unit (s := S32x1536) ![0, 0] S32x1536.size inb_S32x1536_S32x1536_0_0).toLoadRect (View.loadsAt_vmem h_S32x1536))
    let v86 : Vec F S32x1536 .bf16 ← Prog.lift (.load arg13 (Rect.unit (s := S32x1536) ![0, 0] S32x1536.size inb_S32x1536_S32x1536_0_0).toLoadRect (View.loadsAt_vmem h_S32x1536))
    Prog.lift (.store arg13 (Rect.unit (s := S32x1536) ![0, 0] S32x1536.size inb_S32x1536_S32x1536_0_0) (k1_pay5 v84) Finset.univ (View.stores_vmem h_S32x1536 (harg13.storeExact_slice rfl _ packedbf16_S32x1536_S32x1536_0_0) (fun _ => rfl)) (.inl rfl))
    let v87 : Vec F S1x8960 .f32 ← Prog.lift (.load arg15 (Rect.unit (s := S1x8960) ![0, 0] S1x8960.size inb_S1x8960_S1x8960_0_0).toLoadRect (View.loadsAt_vmem h_S1x8960))
    let v89 : Vec F S1x8960 .f32 ← Prog.lift (.load arg8 (Rect.unit (s := S1x8960) ![0, 0] S1x8960.size inb_S1x8960_S1x8960_0_0).toLoadRect (View.loadsAt_vmem h_S1x8960))
    let v92 : Vec F S1x8960 .f32 ← Prog.lift (.load arg15 (Rect.unit (s := S1x8960) ![0, 0] S1x8960.size inb_S1x8960_S1x8960_0_0).toLoadRect (View.loadsAt_vmem h_S1x8960))
    Prog.lift (.store arg15 (Rect.unit (s := S1x8960) ![0, 0] S1x8960.size inb_S1x8960_S1x8960_0_0) (k1_pay6 v87 v89) Finset.univ (View.stores_vmem_bits_univ h_S1x8960 rfl) (.inl rfl))
    pure ⟨⟩
  else do
    pure ⟨⟩

/-- The straight stretch: one tile of `z`, and the tile's part of `dm`, `dx`, `gb` and `d_lora_b`. -/
def blkM (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) : Prog (TpuEff nD τ sig (Elt F) Λ₀ .tc) PUnit := do
  let v11 : Vec F S1280x1536 .fp8e4m3 ← Prog.lift (.load arg3 (Rect.unit (s := S8960x1536) (k1_off1 i) S1280x1536.size (k1_off1_inb i)).toLoadRect (View.loadsAt_vmem h_S1280x1536))
  let v14 : Vec F S1x1280 .f32 ← Prog.lift (.load arg4 (Rect.unit (s := S1x8960) (k1_off2 i) S1x1280.size (k1_off2_inb i)).toLoadRect (View.loadsAt_vmem h_S1x1280))
  let v16 : Vec F S512x1536 .bf16 ← Prog.lift (.load arg2 (Rect.unit (s := S512x1536) ![0, 0] S512x1536.size inb_S512x1536_S512x1536_0_0).toLoadRect (View.loadsAt_vmem h_S512x1536))
  let v21 : Vec F S512x32 .bf16 ← Prog.lift (.load arg19 (Rect.unit (s := S512x32) ![0, 0] S512x32.size inb_S512x32_S512x32_0_0).toLoadRect (View.loadsAt_vmem h_S512x32))
  let v23 : Vec F S1280x32 .bf16 ← Prog.lift (.load arg6 (Rect.unit (s := S8960x32) (k1_off3 i) S1280x32.size (k1_off3_inb i)).toLoadRect (View.loadsAt_vmem h_S1280x32))
  let v27 : Vec F S512x1280 .bf16 ← Prog.lift (.load arg16 (Rect.unit (s := S512x1280) ![0, 0] S512x1280.size inb_S512x1280_S512x1280_0_0).toLoadRect (View.loadsAt_vmem h_S512x1280))
  Prog.lift (.store arg16 (Rect.unit (s := S512x1280) ![0, 0] S512x1280.size inb_S512x1280_S512x1280_0_0) (k1_pay19 v11 v14 v16 v21 v23) Finset.univ (View.stores_vmem h_S512x1280 (harg16.storeExact_slice rfl _ packedbf16_S512x1280_S512x1280_0_0) (fun _ => rfl)) (.inl rfl))
  let v28 : Vec F S512x1280 .fp8e5m2 ← Prog.lift (.load arg10 (Rect.unit (s := S512x1280) ![0, 0] S512x1280.size inb_S512x1280_S512x1280_0_0).toLoadRect (View.loadsAt_vmem h_S512x1280))
  let v31 : Vec F S512x1 .f32 ← Prog.lift (.load arg11 (Rect.unit (s := S512x1) ![0, 0] S512x1.size inb_S512x1_S512x1_0_0).toLoadRect (View.loadsAt_vmem h_S512x1))
  let ⟨v49, v70, v71, cst_35⟩ : Σ' (v49 : FVec F S512x1280 .bf16) (v70 : FVec F S32x1280 .f32) (v71 : Vec F S32x512 .bf16), FVec F S32x1280 .f32 ← k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (Scalar.muli (BitVec.ofNat 32 (i 1).val) 1280#32) (k1_pay16 v11) (k1_pay17 v14) (k1_pay18 v11 v14 v16 v21 v23) (k1_pay20 v28) (k1_pay21 v31)
  let v75 : Vec F S32x1280 .f32 ← Prog.lift (.load arg14 (Rect.unit (s := S32x8960) (k1_off4 i) S32x1280.size (k1_off4_inb i)).toLoadRect (View.loadsAt_vmem h_S32x1280))
  Prog.lift (.store arg14 (Rect.unit (s := S32x8960) (k1_off4 i) S32x1280.size (k1_off4_inb i)) (k1_pay1 v49 v70 v71 cst_35) Finset.univ (View.stores_vmem_bits_univ h_S32x1280 rfl) (.inl rfl))
  pure ⟨⟩

set_option maxRecDepth 65536 in
set_option maxHeartbeats 2000000 in
/-- The printed body is the sequence of the blocks. -/
theorem body_eq_blocks (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole) :
    cc1_dora_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      = (blk1 i arg14 harg14 arg15 harg15 arg23 harg23 >>= fun _ => blk2 i arg2 harg2 arg5 harg5 arg17 harg17 arg19 harg19 arg20 harg20 arg21 harg21 arg22 harg22 >>= fun _ => blkM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 >>= fun _ =>
          blk3 i arg2 harg2 arg5 harg5 arg12 harg12 arg18 harg18 arg21 harg21 arg22 harg22 arg23 harg23 >>= fun _ => blk4 i arg8 harg8 arg13 harg13 arg15 harg15 arg23 harg23) := by
  rw [cc1_dora_backward_eq_skeleton]; unfold cc1_dora_backward_skel
  rw [k1_part1_eq_skeleton]; unfold k1_part1_skel blk1 blk2 blk3 blk4 blkM
  by_cases h1 : (Scalar.cmpi .ne (Scalar.extui (Scalar.andi (Scalar.cmpi .eq (BitVec.ofNat 32 (i 0).val) 0#32) (Scalar.cmpi .eq (BitVec.ofNat 32 (i 1).val) 0#32))) 0#32) = 1#1 <;> by_cases h2 : k1_cond2 i = 1#1 <;> by_cases h3 : k1_cond3 i = 1#1 <;> by_cases h4 : k1_cond4 i = 1#1 <;>
    simp only [h1, h2, h3, h4, dite_true, dite_false, if_true, if_false, dite_eq_ite] <;> rfl

end Cert.KernelIdeal.Body

end
-- ==== Proof.KernelIdeal.Triples.lean ====
module

public import proofs.«01_k».proof.Proof.KernelIdeal.Blocks

/-! # The triples of the backward kernel's blocks

Each block of the body, at whole staging memrefs holding stated contents, leaves in every buffer a stated function of
them: a store of a whole buffer leaves its payload, a store of a column range overlays the range. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {Val : EltTy → Type} {κ : Kind} {sp : Space} {s : Shape} {e : EltTy}

/-- What reads back after one store over contents `f`: the rectangle overlaid on what `f` read. -/
theorem read_writes_one (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    exact (View.read_writes_cons_emb v f r w [] x).trans (Rect.overlay_emb r _ w x).symm
  · rw [Rect.overlay_of_not_mem _ _ _ hy]
    exact View.read_writes_cons_miss v f ⟨r, w⟩ [] y hy

/-- A store of the whole view leaves its payload. -/
theorem read_writes_unit0 (v : View sig κ sp s e) (f : v.ty.Contents Val) {off : Fin s.rank → ℕ} (h : off = fun _ => 0)
    (inb : ∀ a, off a + s.size a ≤ s.size a) (w : s.Idx → Val e) (L : List (View.Piece Val s e)) :
    v.read Val (v.writes Val f (⟨Rect.unit off s.size inb, w⟩ :: L)) = w := by
  subst h
  funext y
  have h := View.read_writes_cons_emb v f (Rect.whole s) w L y
  rwa [Rect.emb_whole_apply] at h

/-- A load of the whole view reads the contents. -/
theorem readAt_unit0 (v : View sig κ sp s e) (f : v.ty.Contents Val) {off : Fin s.rank → ℕ} (h : off = fun _ => 0)
    (inb : ∀ a, off a + s.size a ≤ s.size a) : v.readAt Val (Rect.unit off (no_index s.size) inb).toLoadRect f = v.read Val f :=
  (View.readAt_eq_ld v f _).trans (View.ld_unit_zero h inb _)

end Reads

theorem zero2 : (![0, 0] : Fin 2 → ℕ) = fun _ => 0 := by decide

/-- Conditional block 1. -/
theorem blk1_spec (c : Dev nD) (E : Set ℕ) (i : grid1.Coords) (arg14 : Memref sig .tc .vmem S32x8960 .f32) (harg14 : arg14.IsWhole) (arg15 : Memref sig .tc .vmem S1x8960 .f32) (harg15 : arg15.IsWhole) (arg23 : Memref sig .tc .vmem S32x1536 .f32) (harg23 : arg23.IsWhole)
    (dlbt : Vec F S32x8960 .f32) (dm : Vec F S1x8960 .f32) (dla : Vec F S32x1536 .f32) (K : PUnit → sProp 𝕄) :
    iprop(owns (c : Thread nD τ) arg14 fullShare dlbt ∗ owns (c : Thread nD τ) arg15 fullShare dm ∗ owns (c : Thread nD τ) arg23 fullShare dla
        ∗ (iprop(owns (c : Thread nD τ) arg14 fullShare (if cond1 i then k1_pay8 (F := F) else dlbt) ∗ owns (c : Thread nD τ) arg15 fullShare (if cond1 i then k1_pay9 (F := F) else dm) ∗ owns (c : Thread nD τ) arg23 fullShare (if cond1 i then k1_pay7 (F := F) else dla)) -∗ K ⟨⟩))
      ⊢ wp frame (wpE (defs₀ (F := F)) Variants.none c none) E (blk1 i arg14 harg14 arg15 harg15 arg23 harg23) K := by
  unfold blk1
  by_cases hc : cond1 i
  · simp only [hc, if_true, dif_pos]
    unfold owns
    iintro ⟨⟨%f14, %h14, H14⟩, ⟨%f15, %h15, H15⟩, ⟨%f23, %h23, H23⟩, Hk⟩
    subst h14 h15 h23
    sl_exec
    sl_step
    iapply Hk
    isplitl [H14]
    · iexists _; isplitr
      swap; · iexact H14
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H15]
    · iexists _; isplitr
      swap; · iexact H15
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists _; isplitr
    swap; · iexact H23
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H14, H15, H23, Hk⟩
    sl_step
    iapply Hk
    isplitl [H14]; · iexact H14
    isplitl [H15]; · iexact H15
    iexact H23

/-- Conditional block 2. -/
theorem blk2_spec (c : Dev nD) (E : Set ℕ) (i : grid1.Coords) (arg2 : Memref sig .tc .vmem S512x1536 .bf16) (harg2 : arg2.IsWhole) (arg5 : Memref sig .tc .vmem S32x1536 .bf16) (harg5 : arg5.IsWhole) (arg17 : Memref sig .tc .vmem S512x32 .bf16) (harg17 : arg17.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole)
    (x : Vec F S512x1536 .bf16) (la : Vec F S32x1536 .bf16) (xao : Vec F S512x32 .bf16) (xa : Vec F S512x32 .bf16) (xat : Vec F S32x512 .bf16) (dx : Vec F S512x1536 .f32) (gbt : Vec F S32x512 .f32) (K : PUnit → sProp 𝕄) :
    iprop(owns (c : Thread nD τ) arg2 fullShare x ∗ owns (c : Thread nD τ) arg5 fullShare la ∗ owns (c : Thread nD τ) arg17 fullShare xao ∗ owns (c : Thread nD τ) arg19 fullShare xa ∗ owns (c : Thread nD τ) arg20 fullShare xat ∗ owns (c : Thread nD τ) arg21 fullShare dx ∗ owns (c : Thread nD τ) arg22 fullShare gbt
        ∗ (iprop(owns (c : Thread nD τ) arg2 fullShare x ∗ owns (c : Thread nD τ) arg5 fullShare la ∗ owns (c : Thread nD τ) arg17 fullShare (if k1_cond2 i = 1#1 then k1_pay13 x la else xao) ∗ owns (c : Thread nD τ) arg19 fullShare (if k1_cond2 i = 1#1 then k1_pay11 x la else xa) ∗ owns (c : Thread nD τ) arg20 fullShare (if k1_cond2 i = 1#1 then k1_pay12 x la else xat) ∗ owns (c : Thread nD τ) arg21 fullShare (if k1_cond2 i = 1#1 then k1_pay14 (F := F) else dx) ∗ owns (c : Thread nD τ) arg22 fullShare (if k1_cond2 i = 1#1 then k1_pay15 (F := F) else gbt)) -∗ K ⟨⟩))
      ⊢ wp frame (wpE (defs₀ (F := F)) Variants.none c none) E (blk2 i arg2 harg2 arg5 harg5 arg17 harg17 arg19 harg19 arg20 harg20 arg21 harg21 arg22 harg22) K := by
  unfold blk2
  by_cases hc : k1_cond2 i = 1#1
  · simp only [hc, if_true, dif_pos]
    unfold owns
    iintro ⟨⟨%f2, %h2, H2⟩, ⟨%f5, %h5, H5⟩, ⟨%f17, %h17, H17⟩, ⟨%f19, %h19, H19⟩, ⟨%f20, %h20, H20⟩, ⟨%f21, %h21, H21⟩, ⟨%f22, %h22, H22⟩, Hk⟩
    subst h2 h5 h17 h19 h20 h21 h22
    sl_exec
    sl_step
    iapply Hk
    isplitl [H2]
    · iexists f2; isplitr; · ipureintro; rfl
      iexact H2
    isplitl [H5]
    · iexists f5; isplitr; · ipureintro; rfl
      iexact H5
    isplitl [H17]
    · iexists _; isplitr
      swap; · iexact H17
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H19]
    · iexists _; isplitr
      swap; · iexact H19
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H20]
    · iexists _; isplitr
      swap; · iexact H20
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H21]
    · iexists _; isplitr
      swap; · iexact H21
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists _; isplitr
    swap; · iexact H22
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H2, H5, H17, H19, H20, H21, H22, Hk⟩
    sl_step
    iapply Hk
    isplitl [H2]; · iexact H2
    isplitl [H5]; · iexact H5
    isplitl [H17]; · iexact H17
    isplitl [H19]; · iexact H19
    isplitl [H20]; · iexact H20
    isplitl [H21]; · iexact H21
    iexact H22

/-- Conditional block 3. -/
theorem blk3_spec (c : Dev nD) (E : Set ℕ) (i : grid1.Coords) (arg2 : Memref sig .tc .vmem S512x1536 .bf16) (harg2 : arg2.IsWhole) (arg5 : Memref sig .tc .vmem S32x1536 .bf16) (harg5 : arg5.IsWhole) (arg12 : Memref sig .tc .vmem S512x1536 .bf16) (harg12 : arg12.IsWhole) (arg18 : Memref sig .tc .vmem S512x32 .bf16) (harg18 : arg18.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (x : Vec F S512x1536 .bf16) (la : Vec F S32x1536 .bf16) (dxo : Vec F S512x1536 .bf16) (gbo : Vec F S512x32 .bf16) (dx : Vec F S512x1536 .f32) (gbt : Vec F S32x512 .f32) (dla : Vec F S32x1536 .f32) (K : PUnit → sProp 𝕄) :
    iprop(owns (c : Thread nD τ) arg2 fullShare x ∗ owns (c : Thread nD τ) arg5 fullShare la ∗ owns (c : Thread nD τ) arg12 fullShare dxo ∗ owns (c : Thread nD τ) arg18 fullShare gbo ∗ owns (c : Thread nD τ) arg21 fullShare dx ∗ owns (c : Thread nD τ) arg22 fullShare gbt ∗ owns (c : Thread nD τ) arg23 fullShare dla
        ∗ (iprop(owns (c : Thread nD τ) arg2 fullShare x ∗ owns (c : Thread nD τ) arg5 fullShare la ∗ owns (c : Thread nD τ) arg12 fullShare (if k1_cond3 i = 1#1 then k1_pay3 gbt dx la else dxo) ∗ owns (c : Thread nD τ) arg18 fullShare (if k1_cond3 i = 1#1 then k1_pay2 gbt else gbo) ∗ owns (c : Thread nD τ) arg21 fullShare dx ∗ owns (c : Thread nD τ) arg22 fullShare gbt ∗ owns (c : Thread nD τ) arg23 fullShare (if k1_cond3 i = 1#1 then k1_pay4 gbt dla x else dla)) -∗ K ⟨⟩))
      ⊢ wp frame (wpE (defs₀ (F := F)) Variants.none c none) E (blk3 i arg2 harg2 arg5 harg5 arg12 harg12 arg18 harg18 arg21 harg21 arg22 harg22 arg23 harg23) K := by
  unfold blk3
  by_cases hc : k1_cond3 i = 1#1
  · simp only [hc, if_true, dif_pos]
    unfold owns
    iintro ⟨⟨%f2, %h2, H2⟩, ⟨%f5, %h5, H5⟩, ⟨%f12, %h12, H12⟩, ⟨%f18, %h18, H18⟩, ⟨%f21, %h21, H21⟩, ⟨%f22, %h22, H22⟩, ⟨%f23, %h23, H23⟩, Hk⟩
    subst h2 h5 h12 h18 h21 h22 h23
    sl_exec
    sl_step
    iapply Hk
    isplitl [H2]
    · iexists f2; isplitr; · ipureintro; rfl
      iexact H2
    isplitl [H5]
    · iexists f5; isplitr; · ipureintro; rfl
      iexact H5
    isplitl [H12]
    · iexists _; isplitr
      swap; · iexact H12
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H18]
    · iexists _; isplitr
      swap; · iexact H18
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H21]
    · iexists f21; isplitr; · ipureintro; rfl
      iexact H21
    isplitl [H22]
    · iexists f22; isplitr; · ipureintro; rfl
      iexact H22
    iexists _; isplitr
    swap; · iexact H23
    ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
  · simp only [hc, if_false, dif_neg, not_false_eq_true]
    iintro ⟨H2, H5, H12, H18, H21, H22, H23, Hk⟩
    sl_step
    iapply Hk
    isplitl [H2]; · iexact H2
    isplitl [H5]; · iexact H5
    isplitl [H12]; · iexact H12
    isplitl [H18]; · iexact H18
    isplitl [H21]; · iexact H21
    isplitl [H22]; · iexact H22
    iexact H23

/-- Conditional block 4. -/
theorem blk4_spec (c : Dev nD) (E : Set ℕ) (i : grid1.Coords) (arg8 : Memref sig .tc .vmem S1x8960 .f32) (harg8 : arg8.IsWhole) (arg13 : Memref sig .tc .vmem S32x1536 .bf16) (harg13 : arg13.IsWhole) (arg15 : Memref sig .tc .vmem S1x8960 .f32) (harg15 : arg15.IsWhole) (arg23 : Memref sig .tc .vmem S32x1536 .f32) (harg23 : arg23.IsWhole)
    (n : Vec F S1x8960 .f32) (dlao : Vec F S32x1536 .bf16) (dm : Vec F S1x8960 .f32) (dla : Vec F S32x1536 .f32) (K : PUnit → sProp 𝕄) :
    iprop(owns (c : Thread nD τ) arg8 fullShare n ∗ owns (c : Thread nD τ) arg13 fullShare dlao ∗ owns (c : Thread nD τ) arg15 fullShare dm ∗ owns (c : Thread nD τ) arg23 fullShare dla
        ∗ (iprop(owns (c : Thread nD τ) arg8 fullShare n ∗ owns (c : Thread nD τ) arg13 fullShare (if k1_cond4 i = 1#1 then k1_pay5 dla else dlao) ∗ owns (c : Thread nD τ) arg15 fullShare (if k1_cond4 i = 1#1 then k1_pay6 dm n else dm) ∗ owns (c : Thread nD τ) arg23 fullShare dla) -∗ K ⟨⟩))
      ⊢ wp frame (wpE (defs₀ (F := F)) Variants.none c none) E (blk4 i arg8 harg8 arg13 harg13 arg15 harg15 arg23 harg23) K := by
  unfold blk4
  by_cases hc : k1_cond4 i = 1#1
  · simp only [hc, if_true, dif_pos]
    unfold owns
    iintro ⟨⟨%f8, %h8, H8⟩, ⟨%f13, %h13, H13⟩, ⟨%f15, %h15, H15⟩, ⟨%f23, %h23, H23⟩, Hk⟩
    subst h8 h13 h15 h23
    sl_exec
    sl_step
    iapply Hk
    isplitl [H8]
    · iexists f8; isplitr; · ipureintro; rfl
      iexact H8
    isplitl [H13]
    · iexists _; isplitr
      swap; · iexact H13
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    isplitl [H15]
    · iexists _; isplitr
      swap; · iexact H15
      ipureintro; exact (read_writes_unit0 _ _ zero2 _ _ _).trans (by simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2]; try exact (if_pos hc).symm)
    iexists f23; isplitr; · ipureintro; rfl
    iexact H23
  · simp only [hc, if_false, dif_neg, not_false_eq_true]
    iintro ⟨H8, H13, H15, H23, Hk⟩
    sl_step
    iapply Hk
    isplitl [H8]; · iexact H8
    isplitl [H13]; · iexact H13
    isplitl [H15]; · iexact H15
    iexact H23

/-! ## The straight stretch -/

/-- The rows of the weight of grid column `i 1`. -/
abbrev rW (i : grid1.Coords) : Rect S8960x1536 := Rect.unit (s := S8960x1536) (k1_off1 i) S1280x1536.size (k1_off1_inb i)
/-- The columns of a row of output channels of grid column `i 1`. -/
abbrev rV (i : grid1.Coords) : Rect S1x8960 := Rect.unit (s := S1x8960) (k1_off2 i) S1x1280.size (k1_off2_inb i)
/-- The rows of `lora_b` of grid column `i 1`. -/
abbrev rB (i : grid1.Coords) : Rect S8960x32 := Rect.unit (s := S8960x32) (k1_off3 i) S1280x32.size (k1_off3_inb i)
/-- The columns of the transposed `lora_b` (and of its gradient) of grid column `i 1`. -/
abbrev rT (i : grid1.Coords) : Rect S32x8960 := Rect.unit (s := S32x8960) (k1_off4 i) S32x1280.size (k1_off4_inb i)

section Mid

variable (i : grid1.Coords)

/-- The tile of `z`, in the accumulation format. -/
abbrev zF (w : Vec F S8960x1536 .fp8e4m3) (ws : Vec F S1x8960 .f32) (x : Vec F S512x1536 .bf16) (xa : Vec F S512x32 .bf16) (lb : Vec F S8960x32 .bf16) : FVec F S512x1280 .f32 :=
  k1_pay18 (View.ld w (rW i)) (View.ld ws (rV i)) x xa (View.ld lb (rB i))

/-- The tile of `z`. -/
abbrev zB (w : Vec F S8960x1536 .fp8e4m3) (ws : Vec F S1x8960 .f32) (x : Vec F S512x1536 .bf16) (xa : Vec F S512x32 .bf16) (lb : Vec F S8960x32 .bf16) : FVec F S512x1280 .bf16 :=
  k1_pay19 (View.ld w (rW i)) (View.ld ws (rV i)) x xa (View.ld lb (rB i))

/-- `dm` with the tile's part added. -/
abbrev dmM (w : Vec F S8960x1536 .fp8e4m3) (ws : Vec F S1x8960 .f32) (x : Vec F S512x1536 .bf16) (xa : Vec F S512x32 .bf16) (lb : Vec F S8960x32 .bf16) (dy : Vec F S512x1280 .fp8e5m2) (dys : Vec F S512x1 .f32) (dm : Vec F S1x8960 .f32) : Vec F S1x8960 .f32 :=
  (rV i).overlay dm (k1_pay23 (zF i w ws x xa lb) (k1_pay20 dy) (k1_pay21 dys) (View.ld dm (rV i)))

/-- The tile of `g`. -/
abbrev gM (c0 : Vec F S1x8960 .f32) (dy : Vec F S512x1280 .fp8e5m2) (dys : Vec F S512x1 .f32) : FVec F S512x1280 .bf16 :=
  k1_pay24 (k1_pay20 dy) (k1_pay21 dys) (View.ld c0 (rV i))

/-- `dx` with the tile's part added. -/
abbrev dxM (w : Vec F S8960x1536 .fp8e4m3) (ws : Vec F S1x8960 .f32) (c0 : Vec F S1x8960 .f32) (dy : Vec F S512x1280 .fp8e5m2) (dys : Vec F S512x1 .f32) (dx : Vec F S512x1536 .f32) : Vec F S512x1536 .f32 :=
  k1_pay25 (k1_pay16 (View.ld w (rW i))) (k1_pay17 (View.ld ws (rV i))) (k1_pay20 dy) (k1_pay21 dys) (View.ld c0 (rV i)) dx

/-- The transposed `gb` with the tile's part added. -/
abbrev gbtM (lbt : Vec F S32x8960 .bf16) (c0 : Vec F S1x8960 .f32) (dy : Vec F S512x1280 .fp8e5m2) (dys : Vec F S512x1 .f32) (gbt : Vec F S32x512 .f32) : Vec F S32x512 .f32 :=
  k1_pay26 (k1_pay20 dy) (k1_pay21 dys) (View.ld c0 (rV i)) gbt (View.ld lbt (rT i))

/-- The transposed `d_lora_b` with the tile's part added. -/
abbrev dlbtM (c0 : Vec F S1x8960 .f32) (dy : Vec F S512x1280 .fp8e5m2) (dys : Vec F S512x1 .f32) (xat : Vec F S32x512 .bf16) (dlbt : Vec F S32x8960 .f32) : Vec F S32x8960 .f32 :=
  (rT i).overlay dlbt (k1_pay1 (gM i c0 dy dys) (k1_pay27 (View.ld dlbt (rT i))) xat (constant S32x1280 .f32 0x00000000#32))

end Mid

/-- The straight stretch. -/
theorem blkM_spec (c : Dev nD) (E : Set ℕ) (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (x : Vec F S512x1536 .bf16) (w : Vec F S8960x1536 .fp8e4m3) (ws : Vec F S1x8960 .f32) (la : Vec F S32x1536 .bf16) (lb : Vec F S8960x32 .bf16) (lbt : Vec F S32x8960 .bf16) (c0 : Vec F S1x8960 .f32) (dy : Vec F S512x1280 .fp8e5m2) (dys : Vec F S512x1 .f32) (dlbt : Vec F S32x8960 .f32) (dm : Vec F S1x8960 .f32) (zo : Vec F S512x1280 .bf16) (xa : Vec F S512x32 .bf16) (xat : Vec F S32x512 .bf16) (dx : Vec F S512x1536 .f32) (gbt : Vec F S32x512 .f32) (K : PUnit → sProp 𝕄) :
    iprop(owns (c : Thread nD τ) arg2 fullShare x ∗ owns (c : Thread nD τ) arg3 fullShare w ∗ owns (c : Thread nD τ) arg4 fullShare ws ∗ owns (c : Thread nD τ) arg5 fullShare la ∗ owns (c : Thread nD τ) arg6 fullShare lb ∗ owns (c : Thread nD τ) arg7 fullShare lbt ∗ owns (c : Thread nD τ) arg9 fullShare c0 ∗ owns (c : Thread nD τ) arg10 fullShare dy ∗ owns (c : Thread nD τ) arg11 fullShare dys ∗ owns (c : Thread nD τ) arg14 fullShare dlbt ∗ owns (c : Thread nD τ) arg15 fullShare dm ∗ owns (c : Thread nD τ) arg16 fullShare zo ∗ owns (c : Thread nD τ) arg19 fullShare xa ∗ owns (c : Thread nD τ) arg20 fullShare xat ∗ owns (c : Thread nD τ) arg21 fullShare dx ∗ owns (c : Thread nD τ) arg22 fullShare gbt
        ∗ (iprop(owns (c : Thread nD τ) arg2 fullShare x ∗ owns (c : Thread nD τ) arg3 fullShare w ∗ owns (c : Thread nD τ) arg4 fullShare ws ∗ owns (c : Thread nD τ) arg5 fullShare la ∗ owns (c : Thread nD τ) arg6 fullShare lb ∗ owns (c : Thread nD τ) arg7 fullShare lbt ∗ owns (c : Thread nD τ) arg9 fullShare c0 ∗ owns (c : Thread nD τ) arg10 fullShare dy ∗ owns (c : Thread nD τ) arg11 fullShare dys ∗ owns (c : Thread nD τ) arg14 fullShare (dlbtM i c0 dy dys xat dlbt) ∗ owns (c : Thread nD τ) arg15 fullShare (dmM i w ws x xa lb dy dys dm) ∗ owns (c : Thread nD τ) arg16 fullShare (zB i w ws x xa lb) ∗ owns (c : Thread nD τ) arg19 fullShare xa ∗ owns (c : Thread nD τ) arg20 fullShare xat ∗ owns (c : Thread nD τ) arg21 fullShare (dxM i w ws c0 dy dys dx) ∗ owns (c : Thread nD τ) arg22 fullShare (gbtM i lbt c0 dy dys gbt)) -∗ K ⟨⟩))
      ⊢ wp frame (wpE (defs₀ (F := F)) Variants.none c none) E (blkM i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold blkM
  simp only [k1_part2_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, ⟨%f10, %h10, H10⟩, ⟨%f11, %h11, H11⟩, ⟨%f14, %h14, H14⟩, ⟨%f15, %h15, H15⟩, ⟨%f16, %h16, H16⟩, ⟨%f19, %h19, H19⟩, ⟨%f20, %h20, H20⟩, ⟨%f21, %h21, H21⟩, ⟨%f22, %h22, H22⟩, Hk⟩
  subst h2 h3 h4 h5 h6 h7 h9 h10 h11 h14 h15 h16 h19 h20 h21 h22
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists _; isplitr
    swap; · iexact H14
    ipureintro
    refine (read_writes_one _ _ _ _).trans ?_
    delta blkM_spec.sl.r blkM_spec.sl.r_1 blkM_spec.sl.r_2 blkM_spec.sl.cst_35
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H15]
  · iexists _; isplitr
    swap; · iexact H15
    ipureintro
    refine (read_writes_one _ _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H16]
  · iexists _; isplitr
    swap; · iexact H16
    ipureintro
    refine (read_writes_unit0 _ _ zero2 _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_unit0 _ _ zero2 _ _ _).trans ?_
    simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]
  iexists _; isplitr
  swap; · iexact H22
  ipureintro
  refine (read_writes_unit0 _ _ zero2 _ _ _).trans ?_
  simp only [readAt_unit0 (s := S512x1536) _ _ zero2, readAt_unit0 (s := S32x1536) _ _ zero2, readAt_unit0 (s := S512x1280) _ _ zero2, readAt_unit0 (s := S512x1) _ _ zero2, readAt_unit0 (s := S32x512) _ _ zero2, readAt_unit0 (s := S512x32) _ _ zero2, readAt_unit0 (s := S1x8960) _ _ zero2, View.readAt_eq_ld]

end Cert.KernelIdeal.Body

end
-- ==== Proof.KernelIdeal.Step.lean ====
module

public import proofs.«01_k».proof.Proof.KernelIdeal.Triples

/-! # One grid point of the backward kernel, as a step of a state

The buffers that carry something from one grid point to the next are the five scratch buffers and the staging buffers
of three outputs (the transposed gradient of `lora_b`, the gradient of the magnitude, `xa`). They form the state `Acc`;
the blocks of the inputs are `Ins`. A grid point maps the state it finds to the state it leaves (`step`), and writes the
other outputs from the state it leaves (`body_spec`). -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input blocks of one grid point. -/
structure Ins (F : FTy → Type) where
  x : Vec F S512x1536 .bf16
  w : Vec F S8960x1536 .fp8e4m3
  ws : Vec F S1x8960 .f32
  la : Vec F S32x1536 .bf16
  lb : Vec F S8960x32 .bf16
  lbt : Vec F S32x8960 .bf16
  n : Vec F S1x8960 .f32
  c : Vec F S1x8960 .f32
  dy : Vec F S512x1280 .fp8e5m2
  dys : Vec F S512x1 .f32

/-- The contents the body carries from one grid point to the next. -/
structure Acc (F : FTy → Type) where
  dlbt : Vec F S32x8960 .f32
  dm : Vec F S1x8960 .f32
  xo : Vec F S512x32 .bf16
  xa : Vec F S512x32 .bf16
  xat : Vec F S32x512 .bf16
  dx : Vec F S512x1536 .f32
  gbt : Vec F S32x512 .f32
  dla : Vec F S32x1536 .f32

/-- The first block: at the grid's first point the whole-array gradients start at zero. -/
def step1 (i : grid1.Coords) (s : Acc F) : Acc F :=
  { s with
    dlbt := if cond1 i then k1_pay8 (F := F) else s.dlbt
    dm := if cond1 i then k1_pay9 (F := F) else s.dm
    dla := if cond1 i then k1_pay7 (F := F) else s.dla }

/-- The second block: at a token block's first point `xa` is computed and the token block's gradients start at zero. -/
def step2 (i : grid1.Coords) (I : Ins F) (s : Acc F) : Acc F :=
  { s with
    xo := if k1_cond2 i = 1#1 then k1_pay13 I.x I.la else s.xo
    xa := if k1_cond2 i = 1#1 then k1_pay11 I.x I.la else s.xa
    xat := if k1_cond2 i = 1#1 then k1_pay12 I.x I.la else s.xat
    dx := if k1_cond2 i = 1#1 then k1_pay14 (F := F) else s.dx
    gbt := if k1_cond2 i = 1#1 then k1_pay15 (F := F) else s.gbt }

/-- The straight stretch: the tile's parts are added. -/
def stepM (i : grid1.Coords) (I : Ins F) (s : Acc F) : Acc F :=
  { s with
    dlbt := dlbtM i I.c I.dy I.dys s.xat s.dlbt
    dm := dmM i I.w I.ws I.x s.xa I.lb I.dy I.dys s.dm
    dx := dxM i I.w I.ws I.c I.dy I.dys s.dx
    gbt := gbtM i I.lbt I.c I.dy I.dys s.gbt }

/-- The third block: at a token block's last point the gradient of `lora_a` takes the token block's part. -/
def step3 (i : grid1.Coords) (I : Ins F) (s : Acc F) : Acc F :=
  { s with dla := if k1_cond3 i = 1#1 then k1_pay4 s.gbt s.dla I.x else s.dla }

/-- The fourth block: at the grid's last point the gradient of the magnitude is divided by the norms. -/
def step4 (i : grid1.Coords) (I : Ins F) (s : Acc F) : Acc F :=
  { s with dm := if k1_cond4 i = 1#1 then k1_pay6 s.dm I.n else s.dm }

/-- One grid point. -/
def step (i : grid1.Coords) (I : Ins F) (s : Acc F) : Acc F :=
  step4 i I (step3 i I (stepM i I (step2 i I (step1 i s))))

/-- The first two blocks do not depend on what a buffer they reset held. -/
theorem step12_congr (i : grid1.Coords) (I : Ins F) (s s' : Acc F)
    (h1 : ¬ cond1 i → s.dlbt = s'.dlbt ∧ s.dm = s'.dm ∧ s.dla = s'.dla)
    (h2 : ¬ k1_cond2 i = 1#1 → s.xo = s'.xo ∧ s.xa = s'.xa ∧ s.xat = s'.xat ∧ s.dx = s'.dx ∧ s.gbt = s'.gbt) :
    step2 i I (step1 i s) = step2 i I (step1 i s') := by
  unfold step2 step1
  by_cases hc1 : cond1 i <;> by_cases hc2 : k1_cond2 i = 1#1
  · simp only [if_pos hc1, if_pos hc2]
  · obtain ⟨a, b, e, f, g⟩ := h2 hc2
    simp only [if_pos hc1, if_neg hc2, a, b, e, f, g]
  · obtain ⟨a, b, e⟩ := h1 hc1
    simp only [if_neg hc1, if_pos hc2, a, b, e]
  · obtain ⟨a, b, e, f, g⟩ := h2 hc2
    obtain ⟨a', b', e'⟩ := h1 hc1
    simp only [if_neg hc1, if_neg hc2, a, b, e, f, g, a', b', e']

/-- One grid point does not depend on what a buffer it resets held. -/
theorem step_congr (i : grid1.Coords) (I : Ins F) (s s' : Acc F)
    (h1 : ¬ cond1 i → s.dlbt = s'.dlbt ∧ s.dm = s'.dm ∧ s.dla = s'.dla)
    (h2 : ¬ k1_cond2 i = 1#1 → s.xo = s'.xo ∧ s.xa = s'.xa ∧ s.xat = s'.xat ∧ s.dx = s'.dx ∧ s.gbt = s'.gbt) :
    step i I s = step i I s' := by
  unfold step; rw [step12_congr i I s s' h1 h2]

/-! Which block last wrote each field. -/

theorem step_dlbt (i : grid1.Coords) (I : Ins F) (s : Acc F) : (step i I s).dlbt = dlbtM i I.c I.dy I.dys (step2 i I (step1 i s)).xat (step1 i s).dlbt := by
  simp only [step, step4, step3, stepM, step2, step1]
theorem step_dm (i : grid1.Coords) (I : Ins F) (s : Acc F) : (step i I s).dm = (if k1_cond4 i = 1#1 then k1_pay6 (stepM i I (step2 i I (step1 i s))).dm I.n else (stepM i I (step2 i I (step1 i s))).dm) := by
  simp only [step, step4, step3, stepM, step2, step1]
theorem step_xo (i : grid1.Coords) (I : Ins F) (s : Acc F) : (step i I s).xo = (step2 i I (step1 i s)).xo := by
  simp only [step, step4, step3, stepM, step2, step1]
theorem step_xa (i : grid1.Coords) (I : Ins F) (s : Acc F) : (step i I s).xa = (step2 i I (step1 i s)).xa := by
  simp only [step, step4, step3, stepM, step2, step1]
theorem step_xat (i : grid1.Coords) (I : Ins F) (s : Acc F) : (step i I s).xat = (step2 i I (step1 i s)).xat := by
  simp only [step, step4, step3, stepM, step2, step1]
theorem step_dx (i : grid1.Coords) (I : Ins F) (s : Acc F) : (step i I s).dx = (stepM i I (step2 i I (step1 i s))).dx := by
  simp only [step, step4, step3, stepM, step2, step1]
theorem step_gbt (i : grid1.Coords) (I : Ins F) (s : Acc F) : (step i I s).gbt = (stepM i I (step2 i I (step1 i s))).gbt := by
  simp only [step, step4, step3, stepM, step2, step1]
theorem step_dla (i : grid1.Coords) (I : Ins F) (s : Acc F) : (step i I s).dla = (if k1_cond3 i = 1#1 then k1_pay4 (stepM i I (step2 i I (step1 i s))).gbt (step1 i s).dla I.x else (step1 i s).dla) := by
  simp only [step, step4, step3, stepM, step2, step1]

set_option maxHeartbeats 4000000 in
/-- ONE GRID POINT at whole buffers: the inputs stay, the carried buffers go from the state `s` to `step i I s`, and the other
    outputs are written from the state left (those stored under a condition keep what they held where it fails). -/
theorem body_spec (c : Dev nD) (E : Set ℕ) (i : grid1.Coords) (arg2 : Memref sig .tc .vmem S512x1536 .bf16) (harg2 : arg2.IsWhole) (arg3 : Memref sig .tc .vmem S8960x1536 .fp8e4m3) (harg3 : arg3.IsWhole) (arg4 : Memref sig .tc .vmem S1x8960 .f32) (harg4 : arg4.IsWhole) (arg5 : Memref sig .tc .vmem S32x1536 .bf16) (harg5 : arg5.IsWhole) (arg6 : Memref sig .tc .vmem S8960x32 .bf16) (harg6 : arg6.IsWhole) (arg7 : Memref sig .tc .vmem S32x8960 .bf16) (harg7 : arg7.IsWhole) (arg8 : Memref sig .tc .vmem S1x8960 .f32) (harg8 : arg8.IsWhole) (arg9 : Memref sig .tc .vmem S1x8960 .f32) (harg9 : arg9.IsWhole) (arg10 : Memref sig .tc .vmem S512x1280 .fp8e5m2) (harg10 : arg10.IsWhole) (arg11 : Memref sig .tc .vmem S512x1 .f32) (harg11 : arg11.IsWhole) (arg12 : Memref sig .tc .vmem S512x1536 .bf16) (harg12 : arg12.IsWhole) (arg13 : Memref sig .tc .vmem S32x1536 .bf16) (harg13 : arg13.IsWhole) (arg14 : Memref sig .tc .vmem S32x8960 .f32) (harg14 : arg14.IsWhole) (arg15 : Memref sig .tc .vmem S1x8960 .f32) (harg15 : arg15.IsWhole) (arg16 : Memref sig .tc .vmem S512x1280 .bf16) (harg16 : arg16.IsWhole) (arg17 : Memref sig .tc .vmem S512x32 .bf16) (harg17 : arg17.IsWhole) (arg18 : Memref sig .tc .vmem S512x32 .bf16) (harg18 : arg18.IsWhole) (arg19 : Memref sig .tc .vmem S512x32 .bf16) (harg19 : arg19.IsWhole) (arg20 : Memref sig .tc .vmem S32x512 .bf16) (harg20 : arg20.IsWhole) (arg21 : Memref sig .tc .vmem S512x1536 .f32) (harg21 : arg21.IsWhole) (arg22 : Memref sig .tc .vmem S32x512 .f32) (harg22 : arg22.IsWhole) (arg23 : Memref sig .tc .vmem S32x1536 .f32) (harg23 : arg23.IsWhole)
    (I : Ins F) (s : Acc F) (dxo : Vec F S512x1536 .bf16) (dlao : Vec F S32x1536 .bf16) (zo : Vec F S512x1280 .bf16) (gbo : Vec F S512x32 .bf16) (K : PUnit → sProp 𝕄) :
    iprop(owns (c : Thread nD τ) arg2 fullShare I.x ∗ owns (c : Thread nD τ) arg3 fullShare I.w ∗ owns (c : Thread nD τ) arg4 fullShare I.ws ∗ owns (c : Thread nD τ) arg5 fullShare I.la ∗ owns (c : Thread nD τ) arg6 fullShare I.lb ∗ owns (c : Thread nD τ) arg7 fullShare I.lbt ∗ owns (c : Thread nD τ) arg8 fullShare I.n ∗ owns (c : Thread nD τ) arg9 fullShare I.c ∗ owns (c : Thread nD τ) arg10 fullShare I.dy ∗ owns (c : Thread nD τ) arg11 fullShare I.dys ∗ owns (c : Thread nD τ) arg12 fullShare dxo ∗ owns (c : Thread nD τ) arg13 fullShare dlao ∗ owns (c : Thread nD τ) arg14 fullShare s.dlbt ∗ owns (c : Thread nD τ) arg15 fullShare s.dm ∗ owns (c : Thread nD τ) arg16 fullShare zo ∗ owns (c : Thread nD τ) arg17 fullShare s.xo ∗ owns (c : Thread nD τ) arg18 fullShare gbo ∗ owns (c : Thread nD τ) arg19 fullShare s.xa ∗ owns (c : Thread nD τ) arg20 fullShare s.xat ∗ owns (c : Thread nD τ) arg21 fullShare s.dx ∗ owns (c : Thread nD τ) arg22 fullShare s.gbt ∗ owns (c : Thread nD τ) arg23 fullShare s.dla
        ∗ (iprop(owns (c : Thread nD τ) arg2 fullShare I.x ∗ owns (c : Thread nD τ) arg3 fullShare I.w ∗ owns (c : Thread nD τ) arg4 fullShare I.ws ∗ owns (c : Thread nD τ) arg5 fullShare I.la ∗ owns (c : Thread nD τ) arg6 fullShare I.lb ∗ owns (c : Thread nD τ) arg7 fullShare I.lbt ∗ owns (c : Thread nD τ) arg8 fullShare I.n ∗ owns (c : Thread nD τ) arg9 fullShare I.c ∗ owns (c : Thread nD τ) arg10 fullShare I.dy ∗ owns (c : Thread nD τ) arg11 fullShare I.dys ∗ owns (c : Thread nD τ) arg12 fullShare (if k1_cond3 i = 1#1 then k1_pay3 (step i I s).gbt (step i I s).dx I.la else dxo) ∗ owns (c : Thread nD τ) arg13 fullShare (if k1_cond4 i = 1#1 then k1_pay5 (step i I s).dla else dlao) ∗ owns (c : Thread nD τ) arg14 fullShare (step i I s).dlbt ∗ owns (c : Thread nD τ) arg15 fullShare (step i I s).dm ∗ owns (c : Thread nD τ) arg16 fullShare (zB i I.w I.ws I.x (step i I s).xa I.lb) ∗ owns (c : Thread nD τ) arg17 fullShare (step i I s).xo ∗ owns (c : Thread nD τ) arg18 fullShare (if k1_cond3 i = 1#1 then k1_pay2 (step i I s).gbt else gbo) ∗ owns (c : Thread nD τ) arg19 fullShare (step i I s).xa ∗ owns (c : Thread nD τ) arg20 fullShare (step i I s).xat ∗ owns (c : Thread nD τ) arg21 fullShare (step i I s).dx ∗ owns (c : Thread nD τ) arg22 fullShare (step i I s).gbt ∗ owns (c : Thread nD τ) arg23 fullShare (step i I s).dla) -∗ K ⟨⟩))
      ⊢ wp frame (wpE (defs₀ (F := F)) Variants.none c none) E (cc1_dora_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [body_eq_blocks]
  simp only [wp_bind]
  iintro ⟨H2, H3, H4, H5, H6, H7, H8, H9, H10, H11, H12, H13, H14, H15, H16, H17, H18, H19, H20, H21, H22, H23, Hk⟩
  iapply (blk1_spec c E i arg14 harg14 arg15 harg15 arg23 harg23 s.dlbt s.dm s.dla _)
  isplitl [H14]; · iexact H14
  isplitl [H15]; · iexact H15
  isplitl [H23]; · iexact H23
  iintro ⟨H14, H15, H23⟩
  iapply (blk2_spec c E i arg2 harg2 arg5 harg5 arg17 harg17 arg19 harg19 arg20 harg20 arg21 harg21 arg22 harg22 I.x I.la s.xo s.xa s.xat s.dx s.gbt _)
  isplitl [H2]; · iexact H2
  isplitl [H5]; · iexact H5
  isplitl [H17]; · iexact H17
  isplitl [H19]; · iexact H19
  isplitl [H20]; · iexact H20
  isplitl [H21]; · iexact H21
  isplitl [H22]; · iexact H22
  iintro ⟨H2, H5, H17, H19, H20, H21, H22⟩
  iapply (blkM_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 I.x I.w I.ws I.la I.lb I.lbt I.c I.dy I.dys (step1 i s).dlbt (step1 i s).dm zo (step2 i I (step1 i s)).xa (step2 i I (step1 i s)).xat (step2 i I (step1 i s)).dx (step2 i I (step1 i s)).gbt _)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H14]; · iexact H14
  isplitl [H15]; · iexact H15
  isplitl [H16]; · iexact H16
  isplitl [H19]; · iexact H19
  isplitl [H20]; · iexact H20
  isplitl [H21]; · iexact H21
  isplitl [H22]; · iexact H22
  iintro ⟨H2, H3, H4, H5, H6, H7, H9, H10, H11, H14, H15, H16, H19, H20, H21, H22⟩
  iapply (blk3_spec c E i arg2 harg2 arg5 harg5 arg12 harg12 arg18 harg18 arg21 harg21 arg22 harg22 arg23 harg23 I.x I.la dxo gbo (stepM i I (step2 i I (step1 i s))).dx (stepM i I (step2 i I (step1 i s))).gbt (step1 i s).dla _)
  isplitl [H2]; · iexact H2
  isplitl [H5]; · iexact H5
  isplitl [H12]; · iexact H12
  isplitl [H18]; · iexact H18
  isplitl [H21]; · iexact H21
  isplitl [H22]; · iexact H22
  isplitl [H23]; · iexact H23
  iintro ⟨H2, H5, H12, H18, H21, H22, H23⟩
  iapply (blk4_spec c E i arg8 harg8 arg13 harg13 arg15 harg15 arg23 harg23 I.n dlao (stepM i I (step2 i I (step1 i s))).dm (if k1_cond3 i = 1#1 then k1_pay4 (stepM i I (step2 i I (step1 i s))).gbt (step1 i s).dla I.x else (step1 i s).dla) _)
  isplitl [H8]; · iexact H8
  isplitl [H13]; · iexact H13
  isplitl [H15]; · iexact H15
  isplitl [H23]; · iexact H23
  iintro ⟨H8, H13, H15, H23⟩
  simp only [step_dlbt, step_dm, step_xo, step_xa, step_xat, step_dx, step_gbt, step_dla]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Cert.KernelIdeal.Body
-- ==== Proof.KernelIdeal.Region1.lean ====
module

public import proofs.«01_k».proof.Proof.KernelIdeal.Step
public import Idealize.ShloMosaic.Lib.Pipeline.RegionsLoop
public import Idealize.ShloMosaic.Lib.Pipeline.FrameSuffix

/-! # The backward call's proof data and its body obligation

At contents `V` of the buffers when the call is entered: the blocks of its inputs (`iblk1`), the state before each grid
point (`St`, the steps of `Step` folded), what each staging buffer holds after a point (`dat1`), and the body obligation
of the pipeline at every point. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The conditions, in closed form -/

theorem cond1_iff (t : Fin grid1.N) : cond1 (grid1.coords t) ↔ t.val % 448 = 0 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [cond1, e0, e1]
  word_cmp
theorem cond2_iff (t : Fin grid1.N) : k1_cond2 (grid1.coords t) = 1#1 ↔ t.val % 7 = 0 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond2, e0, e1]
  word_cmp
theorem cond3_iff (t : Fin grid1.N) : k1_cond3 (grid1.coords t) = 1#1 ↔ t.val % 7 = 6 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond3, e0, e1]
  word_cmp
theorem cond4_iff (t : Fin grid1.N) : k1_cond4 (grid1.coords t) = 1#1 ↔ t.val % 448 = 447 := by
  have ht : t.val < 448 := Nat.lt_of_lt_of_eq t.isLt N_1
  have e0 : (grid1.coords t 0).val = t.val / 7 % 64 := Pipeline.Grid.coords_val t 0 (by decide) rfl
  have e1 : (grid1.coords t 1).val = t.val / 1 % 7 := Pipeline.Grid.coords_val t 1 (by decide) rfl
  simp only [k1_cond4, e0, e1]
  word_cmp

/-! ## The state before each point -/

/-- The input blocks of point `t`. -/
def insAt (c : Dev nD) (t : Fin cfg1.N) : Ins F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t⟩

/-- A state to start from (nothing of it is ever read: the first point resets all of it). -/
def St0 : Acc F :=
  ⟨k1_pay8, k1_pay9, fun _ => FloatOps.ofBits .bf16 0#16, fun _ => FloatOps.ofBits .bf16 0#16, fun _ => FloatOps.ofBits .bf16 0#16, k1_pay14, k1_pay15, k1_pay7⟩

/-- The state before point `n`. -/
def St (c : Dev nD) : ℕ → Acc F
  | 0 => St0
  | n + 1 => if h : n < cfg1.N then step (grid1.coords ⟨n, h⟩) (insAt V c ⟨n, h⟩) (St c n) else St c n

theorem St_succ (c : Dev nD) (t : Fin cfg1.N) : St V c (t.val + 1) = step (grid1.coords t) (insAt V c t) (St V c t.val) := by
  rw [St, dif_pos t.isLt]

/-! ## The proof data -/

/-- The region's invariant at a state: the scratch buffers at the state's contents, every other scoped buffer that is no
    staging buffer of this call at anything, the generator register at some state. -/
def PhiAt (c : Dev nD) (s : Acc F) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) (Memref.whole cc1_scratch0) fullShare s.xa ∗ owns (c : Thread nD τ) (Memref.whole cc1_scratch1) fullShare s.xat ∗ owns (c : Thread nD τ) (Memref.whole cc1_scratch2) fullShare s.dx ∗ owns (c : Thread nD τ) (Memref.whole cc1_scratch3) fullShare s.gbt ∗ owns (c : Thread nD τ) (Memref.whole cc1_scratch4) fullShare s.dla) ∗ (∃ r, prngReg c r))

/-- The launch's form of the invariant, with the scratch buffers as memrefs owned at some contents. -/
theorem PhiA1_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d)) ∗ (∃ r, prngReg c r)) := by
  unfold Pipeline.ΦA; rw [scopedRest1_eq]; simp only [owns_whole]; try rfl

/-- The invariant before position `n`: the launch's before the first point, the state's afterwards. -/
def PhiS (c : Dev nD) : ℕ → sProp 𝕄
  | 0 => Pipeline.ΦA spec1 c
  | n + 1 => PhiAt c (St V c (n + 1))

/-- Before any point the invariant holds at some state, which is `St`'s unless the point is the first. -/
theorem PhiS_state (c : Dev nD) (n : ℕ) : PhiS V c n ⊢ iprop(∃ s : Acc F, ⌜n ≠ 0 → s = St V c n⌝ ∗ PhiAt c s) := by
  cases n with
  | zero =>
    unfold PhiS PhiAt
    rw [PhiA1_eq]
    iintro ⟨⟨A0, A1, A2, A3, A4, A5, A6, A7, A8, A9, A10, A11, A12, ⟨%e0, S0⟩, ⟨%e1, S1⟩, ⟨%e2, S2⟩, ⟨%e3, S3⟩, ⟨%e4, S4⟩⟩, Hg⟩
    iexists (⟨k1_pay8, k1_pay9, e0, e0, e1, e2, e3, e4⟩ : Acc F)
    isplitr; · ipureintro; exact fun h => absurd rfl h
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [S0]; · iexact S0
      isplitl [S1]; · iexact S1
      isplitl [S2]; · iexact S2
      isplitl [S3]; · iexact S3
      iexact S4
    iexact Hg
  | succ n =>
    unfold PhiS
    iintro H
    iexists (St V c (n + 1))
    isplitr; · ipureintro; exact fun _ => rfl
    iexact H

/-- At any state the invariant gives the launch's form back. -/
theorem PhiAt_out (c : Dev nD) (s : Acc F) : PhiAt c s ⊢ (Pipeline.ΦA spec1 c : sProp 𝕄) := by
  unfold PhiAt
  rw [PhiA1_eq]
  iintro ⟨⟨A0, A1, A2, A3, A4, A5, A6, A7, A8, A9, A10, A11, A12, S0, S1, S2, S3, S4⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [S0]; · iexists _; iexact S0
    isplitl [S1]; · iexists _; iexact S1
    isplitl [S2]; · iexists _; iexact S2
    isplitl [S3]; · iexists _; iexact S3
    iexists _; iexact S4
  iexact Hg

/-- The proof data of the backward call on core `c`: the arrays as the region finds them; after point `t` each input's
    buffer at its block and each output's at what the state the point leaves says; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay3 (St V c (t.val + 1)).gbt (St V c (t.val + 1)).dx (insAt V c t).la
    | ⟨11, _⟩ => k1_pay5 (St V c (t.val + 1)).dla
    | ⟨12, _⟩ => (St V c (t.val + 1)).dlbt
    | ⟨13, _⟩ => (St V c (t.val + 1)).dm
    | ⟨14, _⟩ => zB (grid1.coords t) (insAt V c t).w (insAt V c t).ws (insAt V c t).x (St V c (t.val + 1)).xa (insAt V c t).lb
    | ⟨15, _⟩ => (St V c (t.val + 1)).xo
    | ⟨16, _⟩ => k1_pay2 (St V c (t.val + 1)).gbt
    | ⟨_ + 17, h⟩ => absurd h (Nat.not_lt.2 (Nat.le_add_left _ _))
  Φ t := PhiS V c t.val
  q _ := fullShare
  owed _ := 0

theorem A_eq1 (c : Dev nD) (w : Fin cfg1.W) : (dat1 V c).A w = V c (Pipeline.arrRef spec1 w) := by
  dsimp only [dat1]

/-! What the body leaves, window by window. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = k1_pay3 (St V c (t.val + 1)).gbt (St V c (t.val + 1)).dx (insAt V c t).la := by dsimp only [dat1]
theorem after1_11 (c : Dev nD) (t : Fin cfg1.N) : (dat1 V c).after 11 t = k1_pay5 (St V c (t.val + 1)).dla := by dsimp only [dat1]
theorem after1_12 (c : Dev nD) (t : Fin cfg1.N) : (dat1 V c).after 12 t = (St V c (t.val + 1)).dlbt := by dsimp only [dat1]
theorem after1_13 (c : Dev nD) (t : Fin cfg1.N) : (dat1 V c).after 13 t = (St V c (t.val + 1)).dm := by dsimp only [dat1]
theorem after1_14 (c : Dev nD) (t : Fin cfg1.N) : (dat1 V c).after 14 t = zB (grid1.coords t) (insAt V c t).w (insAt V c t).ws (insAt V c t).x (St V c (t.val + 1)).xa (insAt V c t).lb := by dsimp only [dat1]
theorem after1_15 (c : Dev nD) (t : Fin cfg1.N) : (dat1 V c).after 15 t = (St V c (t.val + 1)).xo := by dsimp only [dat1]
theorem after1_16 (c : Dev nD) (t : Fin cfg1.N) : (dat1 V c).after 16 t = k1_pay2 (St V c (t.val + 1)).gbt := by dsimp only [dat1]

/-! What the body finds, window by window. -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Window 12's buffer is written back at the last point only, so after the first point it holds what the state says. -/
theorem fresh1_12 (n : ℕ) (h : n ≤ cfg1.N) : cfg1.fresh 12 n = decide (n = 0 ∨ n = 448) := by
  refine cfg1.fresh_tab 12 (fun n => decide (n = 0 ∨ n = 448)) (by decide) (fun t => ?_) n h
  have ht : t.val < 448 := Nat.lt_of_lt_of_eq t.isLt N_1
  rw [show cfg1.idle 12 (cfg1.grid.coords t) = false from rfl, Bool.false_and, Bool.or_false, Bool.eq_iff_iff, flush1_12 t, decide_eq_true_iff]
  omega
theorem before1_12 (c : Dev nD) (t : Fin cfg1.N) (ht0 : t.val ≠ 0) (d) : (dat1 V c).before 12 t d = (St V c t.val).dlbt := by
  have ht : t.val < 448 := Nat.lt_of_lt_of_eq t.isLt N_1
  rw [(dat1 V c).before_out_traj 12 rfl (fun _ _ => rfl) (fun t _ hi => absurd hi (by rw [show cfg1.idle 12 (cfg1.grid.coords t) = false from rfl]; exact Bool.false_ne_true)) t.val t rfl d,
    if_neg (by rw [fresh1_12 t.val (Nat.le_of_lt t.isLt), decide_eq_true_iff]; omega), after1_12]
  rw [show t.val - 1 + 1 = t.val from by omega]

/-- Window 13's buffer is written back at the last point only, so after the first point it holds what the state says. -/
theorem fresh1_13 (n : ℕ) (h : n ≤ cfg1.N) : cfg1.fresh 13 n = decide (n = 0 ∨ n = 448) := by
  refine cfg1.fresh_tab 13 (fun n => decide (n = 0 ∨ n = 448)) (by decide) (fun t => ?_) n h
  have ht : t.val < 448 := Nat.lt_of_lt_of_eq t.isLt N_1
  rw [show cfg1.idle 13 (cfg1.grid.coords t) = false from rfl, Bool.false_and, Bool.or_false, Bool.eq_iff_iff, flush1_13 t, decide_eq_true_iff]
  omega
theorem before1_13 (c : Dev nD) (t : Fin cfg1.N) (ht0 : t.val ≠ 0) (d) : (dat1 V c).before 13 t d = (St V c t.val).dm := by
  have ht : t.val < 448 := Nat.lt_of_lt_of_eq t.isLt N_1
  rw [(dat1 V c).before_out_traj 13 rfl (fun _ _ => rfl) (fun t _ hi => absurd hi (by rw [show cfg1.idle 13 (cfg1.grid.coords t) = false from rfl]; exact Bool.false_ne_true)) t.val t rfl d,
    if_neg (by rw [fresh1_13 t.val (Nat.le_of_lt t.isLt), decide_eq_true_iff]; omega), after1_13]
  rw [show t.val - 1 + 1 = t.val from by omega]

/-- Window 15's buffer is stored at a token block's first point and written back at its last. -/
theorem idle1_15 (t : Fin cfg1.N) : cfg1.idle 15 (cfg1.grid.coords t) = true ↔ ¬ t.val % 7 = 0 := by
  rw [show cfg1.idle 15 (cfg1.grid.coords t) = !(k1_cond2 (grid1.coords t) == 1#1) from rfl, ← cond2_iff t]
  simp
theorem fresh1_15 (n : ℕ) (h : n ≤ cfg1.N) : cfg1.fresh 15 n = decide (n % 7 = 0) := by
  refine cfg1.fresh_tab 15 (fun n => decide (n % 7 = 0)) (by decide) (fun t => ?_) n h
  rw [Bool.eq_iff_iff, Bool.or_eq_true, Bool.and_eq_true, idle1_15 t, flush1_15 t, decide_eq_true_iff, decide_eq_true_iff]
  omega
/-- Away from a token block's first point `xa` stays. -/
theorem St_xo (c : Dev nD) (t : Fin cfg1.N) (h : ¬ t.val % 7 = 0) : (St V c (t.val + 1)).xo = (St V c t.val).xo := by
  rw [St_succ, step_xo]
  exact if_neg (fun e => h ((cond2_iff t).mp e))
theorem before1_15 (c : Dev nD) (t : Fin cfg1.N) (ht7 : ¬ t.val % 7 = 0) (d) : (dat1 V c).before 15 t d = (St V c t.val).xo := by
  rw [(dat1 V c).before_out_traj 15 rfl (fun _ _ => rfl) (fun t h0 hi _ => by
      rw [after1_15, after1_15, St_xo V c t ((idle1_15 t).mp hi)]
      show _ = (St V c (t.val - 1 + 1)).xo
      rw [show t.val - 1 + 1 = t.val from by omega]) t.val t rfl d,
    if_neg (by rw [fresh1_15 t.val (Nat.le_of_lt t.isLt), decide_eq_true_iff]; exact ht7), after1_15]
  show (St V c (t.val - 1 + 1)).xo = _
  rw [show t.val - 1 + 1 = t.val from by omega]

/-! ## What the obligation asks back, window by window -/

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) : (dat1 V c).leavesExact 6 t = owns (c : Thread nD τ) (st1_6 t) fullShare (iblk1 V c 6 t) := by
  unfold Dat.leavesExact; rw [show cfg1.idle 6 (cfg1.grid.coords t) = false from rfl, after1_6]
theorem leaves1_7 (c : Dev nD) (t : Fin cfg1.N) : (dat1 V c).leavesExact 7 t = owns (c : Thread nD τ) (st1_7 t) fullShare (iblk1 V c 7 t) := by
  unfold Dat.leavesExact; rw [show cfg1.idle 7 (cfg1.grid.coords t) = false from rfl, after1_7]
theorem leaves1_8 (c : Dev nD) (t : Fin cfg1.N) : (dat1 V c).leavesExact 8 t = owns (c : Thread nD τ) (st1_8 t) fullShare (iblk1 V c 8 t) := by
  unfold Dat.leavesExact; rw [show cfg1.idle 8 (cfg1.grid.coords t) = false from rfl, after1_8]
theorem leaves1_9 (c : Dev nD) (t : Fin cfg1.N) : (dat1 V c).leavesExact 9 t = owns (c : Thread nD τ) (st1_9 t) fullShare (iblk1 V c 9 t) := by
  unfold Dat.leavesExact; rw [show cfg1.idle 9 (cfg1.grid.coords t) = false from rfl, after1_9]
theorem leaves1_12 (c : Dev nD) (t : Fin cfg1.N) : (dat1 V c).leavesExact 12 t = owns (c : Thread nD τ) (st1_12 t) fullShare ((St V c (t.val + 1)).dlbt) := by
  unfold Dat.leavesExact; rw [show cfg1.idle 12 (cfg1.grid.coords t) = false from rfl, after1_12]
theorem leaves1_13 (c : Dev nD) (t : Fin cfg1.N) : (dat1 V c).leavesExact 13 t = owns (c : Thread nD τ) (st1_13 t) fullShare ((St V c (t.val + 1)).dm) := by
  unfold Dat.leavesExact; rw [show cfg1.idle 13 (cfg1.grid.coords t) = false from rfl, after1_13]
theorem leaves1_14 (c : Dev nD) (t : Fin cfg1.N) : (dat1 V c).leavesExact 14 t = owns (c : Thread nD τ) (st1_14 t) fullShare (zB (grid1.coords t) (insAt V c t).w (insAt V c t).ws (insAt V c t).x (St V c (t.val + 1)).xa (insAt V c t).lb) := by
  unfold Dat.leavesExact; rw [show cfg1.idle 14 (cfg1.grid.coords t) = false from rfl, after1_14]
theorem leaves1_10 (c : Dev nD) (t : Fin cfg1.N) (d) :
    owns (c : Thread nD τ) (st1_10 t) fullShare (if k1_cond3 (grid1.coords t) = 1#1 then k1_pay3 (St V c (t.val + 1)).gbt (St V c (t.val + 1)).dx (insAt V c t).la else (dat1 V c).before 10 t d) ⊢ (dat1 V c).leavesExact 10 t := by
  by_cases h : k1_cond3 (grid1.coords t) = 1#1
  · rw [if_pos h]
    unfold Dat.leavesExact
    rw [show cfg1.idle 10 (cfg1.grid.coords t) = false from by
      rw [show cfg1.idle 10 (cfg1.grid.coords t) = !(k1_cond3 (grid1.coords t) == 1#1) from rfl, h]; rfl, after1_10]
  · rw [if_neg h, Dat.leavesExact_idle (dat1 V c) 10 t
      (by rw [show cfg1.idle 10 (cfg1.grid.coords t) = !(k1_cond3 (grid1.coords t) == 1#1) from rfl]; simpa using h)
      (by rw [← Bool.not_eq_true, flush1_10 t, ← cond3_iff t]; exact h)]
    iintro H; iexists d; iexact H
theorem leaves1_11 (c : Dev nD) (t : Fin cfg1.N) (d) :
    owns (c : Thread nD τ) (st1_11 t) fullShare (if k1_cond4 (grid1.coords t) = 1#1 then k1_pay5 (St V c (t.val + 1)).dla else (dat1 V c).before 11 t d) ⊢ (dat1 V c).leavesExact 11 t := by
  by_cases h : k1_cond4 (grid1.coords t) = 1#1
  · rw [if_pos h]
    unfold Dat.leavesExact
    rw [show cfg1.idle 11 (cfg1.grid.coords t) = false from by
      rw [show cfg1.idle 11 (cfg1.grid.coords t) = !(k1_cond4 (grid1.coords t) == 1#1) from rfl, h]; rfl, after1_11]
  · rw [if_neg h, Dat.leavesExact_idle (dat1 V c) 11 t
      (by rw [show cfg1.idle 11 (cfg1.grid.coords t) = !(k1_cond4 (grid1.coords t) == 1#1) from rfl]; simpa using h)
      (by rw [← Bool.not_eq_true, flush1_11 t, ← cond4_iff t]; exact h)]
    iintro H; iexists d; iexact H
theorem leaves1_16 (c : Dev nD) (t : Fin cfg1.N) (d) :
    owns (c : Thread nD τ) (st1_16 t) fullShare (if k1_cond3 (grid1.coords t) = 1#1 then k1_pay2 (St V c (t.val + 1)).gbt else (dat1 V c).before 16 t d) ⊢ (dat1 V c).leavesExact 16 t := by
  by_cases h : k1_cond3 (grid1.coords t) = 1#1
  · rw [if_pos h]
    unfold Dat.leavesExact
    rw [show cfg1.idle 16 (cfg1.grid.coords t) = false from by
      rw [show cfg1.idle 16 (cfg1.grid.coords t) = !(k1_cond3 (grid1.coords t) == 1#1) from rfl, h]; rfl, after1_16]
  · rw [if_neg h, Dat.leavesExact_idle (dat1 V c) 16 t
      (by rw [show cfg1.idle 16 (cfg1.grid.coords t) = !(k1_cond3 (grid1.coords t) == 1#1) from rfl]; simpa using h)
      (by rw [← Bool.not_eq_true, flush1_16 t, ← cond3_iff t]; exact h)]
    iintro H; iexists d; iexact H
theorem leaves1_15 (c : Dev nD) (t : Fin cfg1.N) (d : (cfg1.win 15).block.Idx → Elt F (cfg1.win 15).elt) :
    iprop(owns (c : Thread nD τ) (st1_15 t) fullShare (St V c (t.val + 1)).xo) ⊢ (dat1 V c).leavesExact 15 t := by
  by_cases h : t.val % 7 = 0
  · unfold Dat.leavesExact
    rw [show cfg1.idle 15 (cfg1.grid.coords t) = false from by rw [← Bool.not_eq_true, idle1_15 t]; exact fun e => e h, after1_15]
  · by_cases h6 : t.val % 7 = 6
    · unfold Dat.leavesExact
      rw [(idle1_15 t).mpr h, (flush1_15 t).mpr h6, after1_15]
    · rw [Dat.leavesExact_idle (dat1 V c) 15 t ((idle1_15 t).mpr h) (by rw [← Bool.not_eq_true, flush1_15 t]; exact h6)]
      iintro H
      iexists d
      rw [before1_15 V c t h, St_xo V c t h]
      iexact H

/-! ## The body obligation -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- What the body must leave there. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t)

set_option maxHeartbeats 4000000 in
/-- The body at any point: the state the invariant and the carried staging buffers hold is, where the point reads it, the
    state before the point, so `body_spec` leaves the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = PhiAt c (St V c (t.val + 1)) from rfl,
    show (dat1 V c).Φ t.castSucc = PhiS V c t.val from rfl,
    show (dat1 V c).owesAt () t.succ = (dat1 V c).owesAt () t.castSucc from rfl,
    leaves1_0, leaves1_1, leaves1_2, leaves1_3, leaves1_4, leaves1_5, leaves1_6, leaves1_7, leaves1_8, leaves1_9, leaves1_12, leaves1_13, leaves1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  ihave HΦ' := PhiS_state V c t.val $$ HΦ
  icases HΦ' with ⟨%s, %hs, HΦ⟩
  have hstep : step (grid1.coords t) (insAt V c t)
      { s with dlbt := (dat1 V c).before 12 t d12, dm := (dat1 V c).before 13 t d13, xo := (dat1 V c).before 15 t d15 } = St V c (t.val + 1) := by
    rw [St_succ]
    have ht : t.val < 448 := Nat.lt_of_lt_of_eq t.isLt N_1
    refine step_congr _ _ _ _ (fun h => ?_) (fun h => ?_)
    · have h0 : t.val ≠ 0 := fun e => h ((cond1_iff t).mpr (by omega))
      exact ⟨before1_12 V c t h0 d12, before1_13 V c t h0 d13, (congrArg Acc.dla (hs h0) : s.dla = _)⟩
    · have h7 : ¬ t.val % 7 = 0 := fun e => h ((cond2_iff t).mpr e)
      have h0 : t.val ≠ 0 := fun e => h7 (by rw [e])
      exact ⟨before1_15 V c t h7 d15, (congrArg Acc.xa (hs h0) : s.xa = _), (congrArg Acc.xat (hs h0) : s.xat = _), (congrArg Acc.dx (hs h0) : s.dx = _), (congrArg Acc.gbt (hs h0) : s.gbt = _)⟩
  unfold PhiAt
  icases HΦ with ⟨⟨A0, A1, A2, A3, A4, A5, A6, A7, A8, A9, A10, A11, A12, S0, S1, S2, S3, S4⟩, Hg⟩
  iapply (body_spec c Set.univ (grid1.coords t) _ _ _ _ _ _ _ _ _ _ _ _ _ _ _ _ _ _ _ _ _ _ _ _ _ _ _ _ _ _ _ _ _ _ _ _ _ _ _ _ _ _ _ _ (insAt V c t)
    { s with dlbt := (dat1 V c).before 12 t d12, dm := (dat1 V c).before 13 t d13, xo := (dat1 V c).before 15 t d15 }
    ((dat1 V c).before 10 t d10) ((dat1 V c).before 11 t d11) ((dat1 V c).before 14 t d14) ((dat1 V c).before 16 t d16) _)
  rw [hstep]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, S0, S1, S2, S3, S4⟩
  isplitl [Hg S0 S1 S2 S3 S4 A0 A1 A2 A3 A4 A5 A6 A7 A8 A9 A10 A11 A12]
  · isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves1_10 V c t d10); iexact H10
  isplitl [H11]; · iapply (leaves1_11 V c t d11); iexact H11
  isplitl [H12]; · iexact H12
  isplitl [H13]; · iexact H13
  isplitl [H14]; · iexact H14
  isplitl [H15]; · iapply (leaves1_15 V c t d15); iexact H15
  iapply (leaves1_16 V c t d16); iexact H16

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : (Pipeline.ΦA spec1 c : sProp 𝕄) ⊢ (dat1 V c).Φ 0 := by
  rw [show (dat1 V c).Φ 0 = (Pipeline.ΦA spec1 c : sProp 𝕄) from rfl]

/-- The invariant after the last point gives the launch's form back. -/
theorem hout1 (c : Dev nD) : (dat1 V c).Φ (Fin.last cfg1.N) ⊢ (Pipeline.ΦA spec1 c : sProp 𝕄) := by
  rw [show (dat1 V c).Φ (Fin.last cfg1.N) = PhiS V c cfg1.N from rfl, show cfg1.N = 447 + 1 from N_1]
  exact PhiAt_out c _

end Cert.KernelIdeal.Body
-- ==== Proof.KernelIdeal.Region0.lean ====
module

public import proofs.«01_k».proof.Proof.KernelIdeal.Region1

/-! # The norm call: what it leaves, and its body obligation

At contents `V` of the buffers when the call is entered: the blocks of its inputs, what the body leaves in the two
outputs' staging buffers (`out0_5`, `out0_6`), the pipeline's proof data and its body obligation. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_weight_norm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1280x1536 := Rect.unit (s := S1280x1536) ![0, 0] S1280x1536.size inb_S1280x1536_S1280x1536_0_0
abbrev r0_1 : Rect S1280x1 := Rect.unit (s := S1280x1) ![0, 0] S1280x1.size inb_S1280x1_S1280x1_0_0
abbrev r0_2 : Rect S1280x32 := Rect.unit (s := S1280x32) ![0, 0] S1280x32.size inb_S1280x32_S1280x32_0_0
abbrev r0_3 : Rect S32x1536 := Rect.unit (s := S32x1536) ![0, 0] S32x1536.size inb_S32x1536_S32x1536_0_0
abbrev r0_4 : Rect S1x1280 := Rect.unit (s := S1x1280) ![0, 0] S1x1280.size inb_S1x1280_S1x1280_0_0

/-! ## What the body leaves in each output window's buffer -/

/-- Window 5's staging buffer after the body, from the input windows' blocks: its 1 store as pieces, LAST
    FIRST (Lib/Pipeline/FrameBody.lean `View.canon`; the payloads are the skeleton's). -/
def out0_5 (x0 : Vec F S1280x1536 .fp8e4m3) (x1 : Vec F S1280x1 .f32) (x2 : Vec F S32x1536 .bf16) (x3 : Vec F S1280x32 .bf16) (x4 : Vec F S1x1280 .f32) : Vec F S1x1280 .f32 :=
  View.canon [⟨r0_4, k0_pay1 (View.ld x0 r0_0) (View.ld x1 r0_1) (View.ld x3 r0_2) (View.ld x2 r0_3)⟩]

/-- Its stores tile the buffer (checked by evaluation), so they cover it. -/
theorem cover0_5 (p0 : Vec F S1x1280 .f32) (y : S1x1280.Idx) :
    ∃ pc ∈ ([⟨r0_4, p0⟩] : List (View.Piece (Elt F) S1x1280 .f32)), y ∈ pc.1.set :=
  View.cover_of_tiled [⟨r0_4, p0⟩] S1x1280.size (by rfl) y

/-- Window 6's staging buffer after the body, from the input windows' blocks: its 1 store as pieces, LAST
    FIRST (Lib/Pipeline/FrameBody.lean `View.canon`; the payloads are the skeleton's). -/
def out0_6 (x0 : Vec F S1280x1536 .fp8e4m3) (x1 : Vec F S1280x1 .f32) (x2 : Vec F S32x1536 .bf16) (x3 : Vec F S1280x32 .bf16) (x4 : Vec F S1x1280 .f32) : Vec F S1x1280 .f32 :=
  View.canon [⟨r0_4, k0_pay2 (View.ld x0 r0_0) (View.ld x1 r0_1) (View.ld x3 r0_2) (View.ld x2 r0_3) (View.ld x4 r0_4)⟩]

/-- Its stores tile the buffer (checked by evaluation), so they cover it. -/
theorem cover0_6 (p0 : Vec F S1x1280 .f32) (y : S1x1280.Idx) :
    ∃ pc ∈ ([⟨r0_4, p0⟩] : List (View.Piece (Elt F) S1x1280 .f32)), y ∈ pc.1.set :=
  View.cover_of_tiled [⟨r0_4, p0⟩] S1x1280.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1280x1536 .fp8e4m3) (harg1 : arg1.IsWhole) (arg2 : Memref sig .tc .vmem S1280x1 .f32) (harg2 : arg2.IsWhole) (arg3 : Memref sig .tc .vmem S32x1536 .bf16) (harg3 : arg3.IsWhole) (arg4 : Memref sig .tc .vmem S1280x32 .bf16) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole)
    (x0 : Vec F S1280x1536 .fp8e4m3) (x1 : Vec F S1280x1 .f32) (x2 : Vec F S32x1536 .bf16) (x3 : Vec F S1280x32 .bf16) (x4 : Vec F S1x1280 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_weight_norm i arg1 harg1 arg2 harg2 arg3 harg3 arg4 harg4 arg5 harg5 arg6 harg6 arg7 harg7) K := by
  simp only [cc0_weight_norm_eq_skeleton]; unfold cc0_weight_norm_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Body

end
-- ==== Proof.KernelIdeal.Compose.lean ====
module

public import proofs.«01_k».proof.Proof.KernelIdeal.Region0

/-! # The program, from the launch to the return

The contents of the buffers at every boundary of @main (`W0` … `W5`: a stretch of host operations or a call at a time),
the two calls as segments over them, and the run of the whole program: every buffer ends at `W5`. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9, main_v10, main_v11, main_v12, main_v13, main_v14, main_v15]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and every
    final state has each unscoped buffer at the last boundary's contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c),
     (h.1 c _ (mem_uc main_arg7 (by decide))).trans (W5_main_arg7 m ρ c)⟩, h.2⟩) (run_all m ρ)

end Cert.KernelIdeal.Body

end
-- ==== Proof.Spec.lean ====
module

public import Idealize.ShloMosaic.Lib.Pointwise
public import Idealize.ShloMosaic.Lib.Pipeline.ValueKit.Acc

/-! # The backward pass of a DoRA linear layer as sums over the extended reals

The arguments as functions of natural-number indices (`Data`), and each result of the problem as one expression in them.
A token is one number `T`, the sequence number times the sequence length plus the position. -/

@[expose] public section

noncomputable section

namespace Cert.Dora

open Idealize.ShloMosaic
open Finset (range)

/-- The arguments: activations, weight codes and their row scales, the two low-rank factors, the magnitudes, the codes of
    the incoming gradient and their token scales. -/
structure Data where
  x : ℕ → ℕ → EReal
  w : ℕ → ℕ → EReal
  ws : ℕ → EReal
  la : ℕ → ℕ → EReal
  lb : ℕ → ℕ → EReal
  m : ℕ → EReal
  dy : ℕ → ℕ → EReal
  dys : ℕ → EReal

namespace Data

variable (D : Data)

/-- One entry of the adapted weight. -/
def V (o i : ℕ) : EReal := D.w o i * D.ws o + ∑ r ∈ range 32, D.lb o r * D.la r i
/-- The norm of a row of the adapted weight. -/
def N (o : ℕ) : EReal := Ideal.sqrt (∑ i ∈ range 1536, D.V o i * D.V o i)
/-- The factor of a row: magnitude over norm. -/
def C (o : ℕ) : EReal := Ideal.div (D.m o) (D.N o)
/-- The token projected by `lora_a`. -/
def XA (T r : ℕ) : EReal := ∑ i ∈ range 1536, D.x T i * D.la r i
/-- The layer's output before the magnitude. -/
def Z (T o : ℕ) : EReal := D.ws o * (∑ i ∈ range 1536, D.x T i * D.w o i) + ∑ r ∈ range 32, D.XA T r * D.lb o r
/-- The incoming gradient. -/
def DY (T o : ℕ) : EReal := D.dy T o * D.dys T
/-- The gradient at the layer's output before the magnitude. -/
def G (T o : ℕ) : EReal := D.dy T o * D.dys T * D.C o
/-- The gradient at the low-rank product. -/
def GB (T r : ℕ) : EReal := ∑ o ∈ range 8960, D.lb o r * D.G T o
/-- The gradient of the activations. -/
def DX (T i : ℕ) : EReal :=
  (∑ o ∈ range 8960, D.G T o * D.ws o * D.w o i) + ∑ r ∈ range 32, D.GB T r * D.la r i
/-- The gradient of `lora_a`. -/
def DLA (r i : ℕ) : EReal := ∑ T ∈ range 32768, D.GB T r * D.x T i
/-- The gradient of `lora_b`, transposed. -/
def DLBT (r o : ℕ) : EReal := ∑ T ∈ range 32768, D.XA T r * D.G T o
/-- The sum whose quotient by the norm is the gradient of the magnitude. -/
def DMS (o : ℕ) : EReal := ∑ T ∈ range 32768, D.DY T o * D.Z T o
/-- The gradient of the magnitude. -/
def DM (o : ℕ) : EReal := Ideal.div (D.DMS o) (D.N o)

end Data

/-- A sum over 1536 columns taken as 128 lanes of twelve addends each. -/
theorem sum_lanes (f : ℕ → EReal) :
    ∑ l : Fin 128, (f l + f (128 + l) + f (256 + l) + f (384 + l) + f (512 + l) + f (640 + l) + f (768 + l) + f (896 + l)
        + f (1024 + l) + f (1152 + l) + f (1280 + l) + f (1408 + l))
      = ∑ i ∈ range 1536, f i := by
  have h : ∀ k : ℕ, ∑ i ∈ range (128 * (k + 1)), f i = ∑ i ∈ range (128 * k), f i + ∑ l : Fin 128, f (128 * k + l) :=
    fun k => by rw [Nat.mul_succ, Finset.sum_range_add, ← Finset.sum_range (fun l => f (128 * k + l))]
  simp only [Finset.sum_add_distrib]
  rw [show (1536 : ℕ) = 128 * (11 + 1) from rfl, h 11, h 10, h 9, h 8, h 7, h 6, h 5, h 4, h 3, h 2, h 1, h 0]
  simp only [Nat.mul_zero, Finset.range_zero, Finset.sum_empty, zero_add, Nat.reduceMul]

/-! ## The arguments as arrays -/

/-- A function on the first `n` naturals, continued by zero. -/
def ext1 {n : ℕ} (f : Fin n → EReal) (a : ℕ) : EReal := if h : a < n then f ⟨a, h⟩ else 0
/-- A function on two ranges of naturals, continued by zero. -/
def ext2 {n k : ℕ} (f : Fin n → Fin k → EReal) (a b : ℕ) : EReal := ext1 (fun i => ext1 (f i) b) a

theorem ext1_mk {n : ℕ} (f : Fin n → EReal) (a : ℕ) (h : a < n) : ext1 f a = f ⟨a, h⟩ := dif_pos h
theorem ext1_val {n : ℕ} (f : Fin n → EReal) (a : Fin n) : ext1 f a = f a := ext1_mk f a a.isLt
theorem ext2_mk {n k : ℕ} (f : Fin n → Fin k → EReal) (a b : ℕ) (ha : a < n) (hb : b < k) : ext2 f a b = f ⟨a, ha⟩ ⟨b, hb⟩ := by
  rw [ext2, ext1_mk _ a ha, ext1_mk _ b hb]
theorem ext2_val {n k : ℕ} (f : Fin n → Fin k → EReal) (a : Fin n) (b : Fin k) : ext2 f a b = f a b := ext2_mk f a b a.isLt b.isLt

/-- The arguments read from arrays, the sequence number and the position taken as one token number. -/
def ofArgs (x : Fin 16 → Fin 2048 → Fin 1536 → EReal) (w : Fin 8960 → Fin 1536 → EReal) (ws : Fin 8960 → EReal)
    (la : Fin 32 → Fin 1536 → EReal) (lb : Fin 8960 → Fin 32 → EReal) (m : Fin 8960 → EReal)
    (dy : Fin 16 → Fin 2048 → Fin 8960 → EReal) (dys : Fin 16 → Fin 2048 → EReal) : Data where
  x := ext2 fun (T : Fin 32768) i => x ⟨T.val / 2048, by omega⟩ ⟨T.val % 2048, by omega⟩ i
  w := ext2 w
  ws := ext1 ws
  la := ext2 la
  lb := ext2 lb
  m := ext1 m
  dy := ext2 fun (T : Fin 32768) o => dy ⟨T.val / 2048, by omega⟩ ⟨T.val % 2048, by omega⟩ o
  dys := ext1 fun T : Fin 32768 => dys ⟨T.val / 2048, by omega⟩ ⟨T.val % 2048, by omega⟩

/-- A sum over all sequences and positions is one over all tokens. -/
theorem sum_tokens (f : ℕ → EReal) : ∑ b : Fin 16, ∑ s : Fin 2048, f (b.val * 2048 + s.val) = ∑ T ∈ range 32768, f T := by
  rw [Finset.sum_range, Fin.sum_univ_univ_mul_add 16 2048 f]

/-! ## The results as arrays -/

/-- The gradient of the activations. -/
def arrDX (D : Data) : (⟨3, ![16, 2048, 1536]⟩ : Shape).Idx → EReal := fun j => D.DX ((j 0).val * 2048 + (j 1).val) (j 2).val
/-- The gradient of `lora_a`. -/
def arrDLA (D : Data) : (⟨2, ![32, 1536]⟩ : Shape).Idx → EReal := fun j => D.DLA (j 0).val (j 1).val
/-- The gradient of `lora_b`. -/
def arrDLB (D : Data) : (⟨2, ![8960, 32]⟩ : Shape).Idx → EReal := fun j => D.DLBT (j 1).val (j 0).val
/-- The gradient of the magnitude. -/
def arrDM (D : Data) : (⟨1, ![8960]⟩ : Shape).Idx → EReal := fun j => D.DM (j 0).val
/-- The layer's output before the magnitude. -/
def arrZ (D : Data) : (⟨3, ![16, 2048, 8960]⟩ : Shape).Idx → EReal := fun j => D.Z ((j 0).val * 2048 + (j 1).val) (j 2).val
/-- The tokens projected by `lora_a`. -/
def arrXA (D : Data) : (⟨3, ![16, 2048, 32]⟩ : Shape).Idx → EReal := fun j => D.XA ((j 0).val * 2048 + (j 1).val) (j 2).val
/-- The gradient at the low-rank product. -/
def arrGB (D : Data) : (⟨3, ![16, 2048, 32]⟩ : Shape).Idx → EReal := fun j => D.GB ((j 0).val * 2048 + (j 1).val) (j 2).val

end Cert.Dora

end
-- ==== Proof.KernelIdeal.Pay.lean ====
module

public import proofs.«01_k».proof.Proof.Gen.KernelIdeal.Skeleton
public import proofs.«01_k».proof.Proof.Spec

/-! # The kernel's vector expressions read at one index, over the extended reals

Each theorem states, for one of the values the two kernel bodies compute, its element at a row and a column as scalar
arithmetic: a matrix product is the sum of the products over the contracted axis, a cast is the identity. -/

@[expose] public section

set_option maxRecDepth 16384

noncomputable section

namespace Cert.KernelIdeal.Body

open Cert.KernelIdeal Cert.KernelIdeal.Gen
open Idealize.ShloMosaic

/-- The projection of a token row on a row of `lora_a`: what the first step of a token block stores. -/
theorem pay11_apply (x : Vec Ideal S512x1536 .bf16) (la : Vec Ideal S32x1536 .bf16) (a : Fin 512) (r : Fin 32) :
    k1_pay11 (F := Ideal) x la (ix2 a r) = ∑ i : Fin 1536, x (ix2 a i) * la (ix2 r i) := by
  pointwise [k1_pay11, k1_pay10]

/-- The same projection, stored transposed. -/
theorem pay12_apply (x : Vec Ideal S512x1536 .bf16) (la : Vec Ideal S32x1536 .bf16) (a : Fin 512) (r : Fin 32) :
    k1_pay12 (F := Ideal) x la (ix2 r a) = ∑ i : Fin 1536, x (ix2 a i) * la (ix2 r i) := by
  pointwise [k1_pay12, k1_pay10]

/-- The same projection, stored in the result block. -/
theorem pay13_apply (x : Vec Ideal S512x1536 .bf16) (la : Vec Ideal S32x1536 .bf16) (a : Fin 512) (r : Fin 32) :
    k1_pay13 (F := Ideal) x la (ix2 a r) = ∑ i : Fin 1536, x (ix2 a i) * la (ix2 r i) := by
  pointwise [k1_pay13, k1_pay10]

theorem pay7_apply (r : Fin 32) (i : Fin 1536) : k1_pay7 (F := Ideal) (ix2 r i) = 0 := by
  pointwise [k1_pay7]
theorem pay8_apply (r : Fin 32) (i : Fin 8960) : k1_pay8 (F := Ideal) (ix2 r i) = 0 := by
  pointwise [k1_pay8]
theorem pay9_apply (r : Fin 1) (i : Fin 8960) : k1_pay9 (F := Ideal) (ix2 r i) = 0 := by
  pointwise [k1_pay9]
theorem pay14_apply (r : Fin 512) (i : Fin 1536) : k1_pay14 (F := Ideal) (ix2 r i) = 0 := by
  pointwise [k1_pay14]
theorem pay15_apply (r : Fin 32) (i : Fin 512) : k1_pay15 (F := Ideal) (ix2 r i) = 0 := by
  pointwise [k1_pay15]

/-- One element of a block of `z`. -/
theorem pay18_apply (w : Vec Ideal S1280x1536 .fp8e4m3) (ws : Vec Ideal S1x1280 .f32) (x : Vec Ideal S512x1536 .bf16)
    (xa : Vec Ideal S512x32 .bf16) (lb : Vec Ideal S1280x32 .bf16) (a : Fin 512) (o : Fin 1280) :
    k1_pay18 (F := Ideal) w ws x xa lb (ix2 a o)
      = ws (ix2 0 o) * (∑ i : Fin 1536, x (ix2 a i) * w (ix2 o i)) + ∑ r : Fin 32, xa (ix2 a r) * lb (ix2 o r) := by
  pointwise [k1_pay18, k1_pay16, k1_pay17]

/-- The stored block of `z` is the computed one. -/
theorem pay19_apply (w : Vec Ideal S1280x1536 .fp8e4m3) (ws : Vec Ideal S1x1280 .f32) (x : Vec Ideal S512x1536 .bf16)
    (xa : Vec Ideal S512x32 .bf16) (lb : Vec Ideal S1280x32 .bf16) (a : Fin 512) (o : Fin 1280) :
    k1_pay19 (F := Ideal) w ws x xa lb (ix2 a o)
      = ws (ix2 0 o) * (∑ i : Fin 1536, x (ix2 a i) * w (ix2 o i)) + ∑ r : Fin 32, xa (ix2 a r) * lb (ix2 o r) := by
  pointwise [k1_pay19, k1_pay18, k1_pay16, k1_pay17]

/-- `dm`: the columns' running sums grow by the block's column sums of `dy * z`. -/
theorem pay23_apply (z : FVec Ideal S512x1280 .f32) (dy : Vec Ideal S512x1280 .fp8e5m2) (dys : Vec Ideal S512x1 .f32)
    (dm : Vec Ideal S1x1280 .f32) (u : Fin 1) (o : Fin 1280) :
    k1_pay23 (F := Ideal) z (k1_pay20 dy) (k1_pay21 dys) dm (ix2 u o)
      = dm (ix2 u o) + ∑ a : Fin 512, dy (ix2 a o) * dys (ix2 a 0) * z (ix2 a o) := by
  pointwise [k1_pay23, k1_pay22, k1_pay20, k1_pay21]

/-- One element of a block of `g`. -/
theorem pay24_apply (dy : Vec Ideal S512x1280 .fp8e5m2) (dys : Vec Ideal S512x1 .f32) (c : Vec Ideal S1x1280 .f32)
    (a : Fin 512) (o : Fin 1280) :
    k1_pay24 (F := Ideal) (k1_pay20 dy) (k1_pay21 dys) c (ix2 a o) = dy (ix2 a o) * dys (ix2 a 0) * c (ix2 0 o) := by
  pointwise [k1_pay24, k1_pay22, k1_pay20, k1_pay21]

/-- The running sum of `dx` grows by the block's product of the scaled `g` with the weight codes. -/
theorem pay25_apply (w : Vec Ideal S1280x1536 .fp8e4m3) (ws : Vec Ideal S1x1280 .f32) (dy : Vec Ideal S512x1280 .fp8e5m2)
    (dys : Vec Ideal S512x1 .f32) (c : Vec Ideal S1x1280 .f32) (dx : Vec Ideal S512x1536 .f32) (a : Fin 512) (i : Fin 1536) :
    k1_pay25 (F := Ideal) (k1_pay16 w) (k1_pay17 ws) (k1_pay20 dy) (k1_pay21 dys) c dx (ix2 a i)
      = dx (ix2 a i) + ∑ o : Fin 1280, dy (ix2 a o) * dys (ix2 a 0) * c (ix2 0 o) * ws (ix2 0 o) * w (ix2 o i) := by
  pointwise [k1_pay25, k1_pay24, k1_pay22, k1_pay20, k1_pay21, k1_pay16, k1_pay17]

/-- The running sum of `gb`, kept transposed. -/
theorem pay26_apply (dy : Vec Ideal S512x1280 .fp8e5m2) (dys : Vec Ideal S512x1 .f32) (c : Vec Ideal S1x1280 .f32)
    (gbt : Vec Ideal S32x512 .f32) (lbt : Vec Ideal S32x1280 .bf16) (r : Fin 32) (a : Fin 512) :
    k1_pay26 (F := Ideal) (k1_pay20 dy) (k1_pay21 dys) c gbt lbt (ix2 r a)
      = gbt (ix2 r a) + ∑ o : Fin 1280, lbt (ix2 r o) * (dy (ix2 a o) * dys (ix2 a 0) * c (ix2 0 o)) := by
  pointwise [k1_pay26, k1_pay24, k1_pay22, k1_pay20, k1_pay21]

/-- The running sum of the transposed gradient of `lora_b`. -/
theorem pay1_apply (g : FVec Ideal S512x1280 .bf16) (dlbt : Vec Ideal S32x1280 .f32) (xat : Vec Ideal S32x512 .bf16)
    (r : Fin 32) (o : Fin 1280) :
    k1_pay1 (F := Ideal) g (k1_pay27 dlbt) xat (constant S32x1280 .f32 0x00000000#32) (ix2 r o)
      = dlbt (ix2 r o) + ∑ a : Fin 512, xat (ix2 r a) * g (ix2 a o) := by
  pointwise [k1_pay1, k1_pay27]

/-- The stored block of `gb` is the running sum transposed. -/
theorem pay2_apply (gbt : Vec Ideal S32x512 .f32) (a : Fin 512) (r : Fin 32) :
    k1_pay2 (F := Ideal) gbt (ix2 a r) = gbt (ix2 r a) := by
  pointwise [k1_pay2]

/-- The stored block of `dx`: the running sum plus the product of `gb` with `lora_a`. -/
theorem pay3_apply (gbt : Vec Ideal S32x512 .f32) (dx : Vec Ideal S512x1536 .f32) (la : Vec Ideal S32x1536 .bf16)
    (a : Fin 512) (i : Fin 1536) :
    k1_pay3 (F := Ideal) gbt dx la (ix2 a i) = dx (ix2 a i) + ∑ r : Fin 32, gbt (ix2 r a) * la (ix2 r i) := by
  pointwise [k1_pay3, k1_pay2]

/-- The running sum of the gradient of `lora_a`. -/
theorem pay4_apply (gbt : Vec Ideal S32x512 .f32) (dla : Vec Ideal S32x1536 .f32) (x : Vec Ideal S512x1536 .bf16)
    (r : Fin 32) (i : Fin 1536) :
    k1_pay4 (F := Ideal) gbt dla x (ix2 r i) = dla (ix2 r i) + ∑ a : Fin 512, gbt (ix2 r a) * x (ix2 a i) := by
  pointwise [k1_pay4]

/-- The stored gradient of `lora_a` is the running sum. -/
theorem pay5_apply (dla : Vec Ideal S32x1536 .f32) (r : Fin 32) (i : Fin 1536) :
    k1_pay5 (F := Ideal) dla (ix2 r i) = dla (ix2 r i) := by
  pointwise [k1_pay5]

/-- The last step divides the sums of `dm` by the norms. -/
theorem pay6_apply (dm n : Vec Ideal S1x8960 .f32) (u : Fin 1) (o : Fin 8960) :
    k1_pay6 (F := Ideal) dm n (ix2 u o) = Ideal.div (dm (ix2 u o)) (n (ix2 u o)) := by
  pointwise [k1_pay6]

/-- The norms of a block of weight rows: the twelve groups of 128 lanes are added first, then the lanes. -/
theorem npay1_apply (D : Cert.Dora.Data) (b : ℕ) (w : Vec Ideal S1280x1536 .fp8e4m3) (ws : Vec Ideal S1280x1 .f32) (lb : Vec Ideal S1280x32 .bf16)
    (la : Vec Ideal S32x1536 .bf16) (hw : ∀ (o : Fin 1280) (i : Fin 1536), w (ix2 o i) = D.w (b + o) i)
    (hws : ∀ o : Fin 1280, ws (ix2 o 0) = D.ws (b + o)) (hlb : ∀ (o : Fin 1280) (r : Fin 32), lb (ix2 o r) = D.lb (b + o) r)
    (hla : ∀ (r : Fin 32) (i : Fin 1536), la (ix2 r i) = D.la r i) (u : Fin 1) (o : Fin 1280) :
    k0_pay1 (F := Ideal) w ws lb la (ix2 u o) = D.N (b + o) := by
  have hV : ∀ i : Fin 1536, w (ix2 o i) * ws (ix2 o 0) + ∑ r : Fin 32, lb (ix2 o r) * la (ix2 r i) = D.V (b + o) i := fun i => by
    rw [Cert.Dora.Data.V, Finset.sum_range, hw, hws]
    simp only [hlb, hla]
  pointwise [k0_pay1]
  simp only [hV]
  exact congrArg Ideal.sqrt (Cert.Dora.sum_lanes fun i => D.V (b + o) i * D.V (b + o) i)

/-- The factors of a block of weight rows. -/
theorem npay2_apply (w : Vec Ideal S1280x1536 .fp8e4m3) (ws : Vec Ideal S1280x1 .f32) (lb : Vec Ideal S1280x32 .bf16)
    (la : Vec Ideal S32x1536 .bf16) (m : Vec Ideal S1x1280 .f32) (u : Fin 1) (o : Fin 1280) :
    k0_pay2 (F := Ideal) w ws lb la m (ix2 u o) = Ideal.div (m (ix2 u o)) (k0_pay1 (F := Ideal) w ws lb la (ix2 u o)) := by
  pointwise [k0_pay2]

end Cert.KernelIdeal.Body

end
-- ==== Proof.KernelIdeal.State.lean ====
module

public import proofs.«01_k».proof.Proof.KernelIdeal.Pay
public import proofs.«01_k».proof.Proof.KernelIdeal.Step
public import Idealize.ShloMosaic.Lib.Pipeline.ValueKit.Tiles

/-! # What the backward call carries from point to point, over the extended reals

`Before D k j s`: the state found at token block `k`, column block `j`. `After D k j s`: the state left there. Every
carried buffer is a partial sum of the result it accumulates; `step_after` is the induction step. -/

@[expose] public section

set_option maxRecDepth 16384

noncomputable section

namespace Cert.KernelIdeal.Body

open Cert.KernelIdeal Cert.KernelIdeal.Gen
open Idealize.ShloMosaic
open Cert.Dora (Data)
open Finset (range)

/-! ## Reading and writing a column block -/

theorem coord1_lt (i : grid1.Coords) : (i 1).val < 7 := (i 1).isLt

theorem ld_rW {e : EltTy} (i : grid1.Coords) (X : Vec Ideal S8960x1536 e) (q : Fin 1280) (d : Fin 1536) :
    View.ld X (rW i) (ix2 q d) = X (ix2 ⟨1280 * (i 1).val + q, by have := coord1_lt i; omega⟩ d) :=
  View.ld_unit_apply_of X _ _ _ _ _ fun a => by
    simp only [k1_off1_eq]
    match a with
    | ⟨0, _⟩ => rfl
    | ⟨1, _⟩ => exact (Nat.zero_add _).symm

theorem ld_rB {e : EltTy} (i : grid1.Coords) (X : Vec Ideal S8960x32 e) (q : Fin 1280) (d : Fin 32) :
    View.ld X (rB i) (ix2 q d) = X (ix2 ⟨1280 * (i 1).val + q, by have := coord1_lt i; omega⟩ d) :=
  View.ld_unit_apply_of X _ _ _ _ _ fun a => by
    simp only [k1_off3_eq]
    match a with
    | ⟨0, _⟩ => rfl
    | ⟨1, _⟩ => exact (Nat.zero_add _).symm

theorem ld_rV {e : EltTy} (i : grid1.Coords) (X : Vec Ideal S1x8960 e) (u : Fin 1) (q : Fin 1280) :
    View.ld X (rV i) (ix2 u q) = X (ix2 u ⟨1280 * (i 1).val + q, by have := coord1_lt i; omega⟩) :=
  View.ld_unit_apply_of X _ _ _ _ _ fun a => by
    simp only [k1_off2_eq]
    match a with
    | ⟨0, _⟩ => exact (Nat.zero_add _).symm
    | ⟨1, _⟩ => rfl

theorem ld_rT {e : EltTy} (i : grid1.Coords) (X : Vec Ideal S32x8960 e) (r : Fin 32) (q : Fin 1280) :
    View.ld X (rT i) (ix2 r q) = X (ix2 r ⟨1280 * (i 1).val + q, by have := coord1_lt i; omega⟩) :=
  View.ld_unit_apply_of X _ _ _ _ _ fun a => by
    simp only [k1_off4_eq]
    match a with
    | ⟨0, _⟩ => exact (Nat.zero_add _).symm
    | ⟨1, _⟩ => rfl

/-- An element inside a unit-stride rectangle reads what was written there. -/
theorem overlay_unit_mem {S : Shape} {α : Type} (off size : Fin S.rank → ℕ) (inb) (X : S.Idx → α) (P : (Rect.unit off size inb).shape.Idx → α)
    (j : S.Idx) (x : (Rect.unit off size inb).shape.Idx) (h : ∀ a, (j a : ℕ) = off a + x a) : (Rect.unit off size inb).overlay X P j = P x := by
  rw [← (Rect.unit off size inb).overlay_emb X P x]
  exact congrArg _ (funext fun a => Fin.ext ((h a).trans (Rect.idx_unit_val off size inb x a).symm))

/-- An element outside a unit-stride rectangle stays. -/
theorem overlay_unit_not {S : Shape} {α : Type} (off size : Fin S.rank → ℕ) (inb) (X : S.Idx → α) (P : (Rect.unit off size inb).shape.Idx → α)
    (j : S.Idx) (a : Fin S.rank) (h : (j a : ℕ) < off a ∨ off a + size a ≤ (j a : ℕ)) : (Rect.unit off size inb).overlay X P j = X j := by
  refine (Rect.unit off size inb).overlay_of_not_mem X P fun hm => ?_
  rw [← Rect.map_emb_univ, Finset.mem_map] at hm
  obtain ⟨x, -, hx⟩ := hm
  have e : (j a : ℕ) = off a + x a := by rw [← hx]; exact Rect.idx_unit_val off size inb x a
  have hl : (x a : ℕ) < size a := (x a).isLt
  omega

/-- A column inside the block written reads the block. -/
theorem overlay_rV_mem (i : grid1.Coords) (X : Vec Ideal S1x8960 .f32) (P : Vec Ideal S1x1280 .f32) (u : Fin 1) (o : Fin 8960)
    (q : Fin 1280) (hq : o.val = 1280 * (i 1).val + q.val) : (rV i).overlay X P (ix2 u o) = P (ix2 u q) :=
  overlay_unit_mem _ _ _ X P _ _ fun a => by
    simp only [k1_off2_eq]
    match a with
    | ⟨0, _⟩ => exact (Nat.zero_add _).symm
    | ⟨1, _⟩ => exact hq

/-- A column outside the block written stays. -/
theorem overlay_rV_not (i : grid1.Coords) (X : Vec Ideal S1x8960 .f32) (P : Vec Ideal S1x1280 .f32) (u : Fin 1) (o : Fin 8960)
    (ho : o.val < 1280 * (i 1).val ∨ 1280 * (i 1).val + 1280 ≤ o.val) : (rV i).overlay X P (ix2 u o) = X (ix2 u o) :=
  overlay_unit_not _ _ _ X P _ (1 : Fin 2) (by simp only [k1_off2_eq]; exact ho)

theorem overlay_rT_mem (i : grid1.Coords) (X : Vec Ideal S32x8960 .f32) (P : Vec Ideal S32x1280 .f32) (r : Fin 32) (o : Fin 8960)
    (q : Fin 1280) (hq : o.val = 1280 * (i 1).val + q.val) : (rT i).overlay X P (ix2 r o) = P (ix2 r q) :=
  overlay_unit_mem _ _ _ X P _ _ fun a => by
    simp only [k1_off4_eq]
    match a with
    | ⟨0, _⟩ => exact (Nat.zero_add _).symm
    | ⟨1, _⟩ => exact hq

theorem overlay_rT_not (i : grid1.Coords) (X : Vec Ideal S32x8960 .f32) (P : Vec Ideal S32x1280 .f32) (r : Fin 32) (o : Fin 8960)
    (ho : o.val < 1280 * (i 1).val ∨ 1280 * (i 1).val + 1280 ≤ o.val) : (rT i).overlay X P (ix2 r o) = X (ix2 r o) :=
  overlay_unit_not _ _ _ X P _ (1 : Fin 2) (by simp only [k1_off4_eq]; exact ho)

/-! ## The induction step -/

/-- The input blocks of token block `k`, column block `j`, in the arguments. -/
structure InsOk (D : Data) (k j : ℕ) (I : Ins Ideal) : Prop where
  x : ∀ (a : Fin 512) (i : Fin 1536), I.x (ix2 a i) = D.x (512 * k + a) i
  w : ∀ (o : Fin 8960) (i : Fin 1536), I.w (ix2 o i) = D.w o i
  ws : ∀ o : Fin 8960, I.ws (ix2 0 o) = D.ws o
  la : ∀ (r : Fin 32) (i : Fin 1536), I.la (ix2 r i) = D.la r i
  lb : ∀ (o : Fin 8960) (r : Fin 32), I.lb (ix2 o r) = D.lb o r
  lbt : ∀ (r : Fin 32) (o : Fin 8960), I.lbt (ix2 r o) = D.lb o r
  n : ∀ o : Fin 8960, I.n (ix2 0 o) = D.N o
  c : ∀ o : Fin 8960, I.c (ix2 0 o) = D.C o
  dy : ∀ (a : Fin 512) (q : Fin 1280), I.dy (ix2 a q) = D.dy (512 * k + a) (1280 * j + q)
  dys : ∀ a : Fin 512, I.dys (ix2 a 0) = D.dys (512 * k + a)

/-- The tokens a column's sums have taken before column block `j` of token block `k`. -/
def seen (k j o : ℕ) : ℕ := 512 * (if o < 1280 * j then k + 1 else k)

theorem seen_zero (o : ℕ) : seen 0 0 o = 0 := by
  rw [seen, Nat.mul_zero, if_neg (Nat.not_lt_zero _), Nat.mul_zero]

/-- A column of the block at hand takes the token block's tokens. -/
theorem seen_succ_mem (k j q : ℕ) (hq : q < 1280) : seen k (j + 1) (1280 * j + q) = seen k j (1280 * j + q) + 512 ∧ seen k j (1280 * j + q) = 512 * k := by
  unfold seen
  rw [if_pos (by omega), if_neg (by omega)]
  exact ⟨rfl, rfl⟩

/-- A column of another block takes nothing. -/
theorem seen_succ_not (k j o : ℕ) (ho : o < 1280 * j ∨ 1280 * j + 1280 ≤ o) : seen k (j + 1) o = seen k j o := by
  unfold seen
  rcases ho with h | h
  · rw [if_pos (by omega), if_pos h]
  · rw [if_neg (by omega), if_neg (by omega)]

/-- The state found at token block `k`, column block `j`, of what the point does not reset. -/
structure Before (D : Data) (k j : ℕ) (s : Acc Ideal) : Prop where
  xa : j ≠ 0 → ∀ (a : Fin 512) (r : Fin 32), s.xa (ix2 a r) = D.XA (512 * k + a) r
  xat : j ≠ 0 → ∀ (a : Fin 512) (r : Fin 32), s.xat (ix2 r a) = D.XA (512 * k + a) r
  xo : j ≠ 0 → ∀ (a : Fin 512) (r : Fin 32), s.xo (ix2 a r) = D.XA (512 * k + a) r
  dx : j ≠ 0 → ∀ (a : Fin 512) (i : Fin 1536), s.dx (ix2 a i)
    = ∑ o ∈ range (1280 * j), D.G (512 * k + a) o * D.ws o * D.w o i
  gbt : j ≠ 0 → ∀ (a : Fin 512) (r : Fin 32), s.gbt (ix2 r a)
    = ∑ o ∈ range (1280 * j), D.lb o r * D.G (512 * k + a) o
  dla : ¬(k = 0 ∧ j = 0) → ∀ (r : Fin 32) (i : Fin 1536), s.dla (ix2 r i)
    = ∑ T ∈ range (512 * k), D.GB T r * D.x T i
  dlbt : ¬(k = 0 ∧ j = 0) → ∀ (r : Fin 32) (o : Fin 8960), s.dlbt (ix2 r o)
    = ∑ T ∈ range (seen k j o), D.XA T r * D.G T o
  dm : ¬(k = 0 ∧ j = 0) → ∀ (u : Fin 1) (o : Fin 8960), s.dm (ix2 u o)
    = ∑ T ∈ range (seen k j o), D.DY T o * D.Z T o

/-- The state left after token block `k`, column block `j`. -/
structure After (D : Data) (k j : ℕ) (s : Acc Ideal) : Prop where
  xa : ∀ (a : Fin 512) (r : Fin 32), s.xa (ix2 a r) = D.XA (512 * k + a) r
  xat : ∀ (a : Fin 512) (r : Fin 32), s.xat (ix2 r a) = D.XA (512 * k + a) r
  xo : ∀ (a : Fin 512) (r : Fin 32), s.xo (ix2 a r) = D.XA (512 * k + a) r
  dx : ∀ (a : Fin 512) (i : Fin 1536), s.dx (ix2 a i)
    = ∑ o ∈ range (1280 * (j + 1)), D.G (512 * k + a) o * D.ws o * D.w o i
  gbt : ∀ (a : Fin 512) (r : Fin 32), s.gbt (ix2 r a)
    = ∑ o ∈ range (1280 * (j + 1)), D.lb o r * D.G (512 * k + a) o
  dla : ∀ (r : Fin 32) (i : Fin 1536), s.dla (ix2 r i)
    = ∑ T ∈ range (512 * (if j = 6 then k + 1 else k)), D.GB T r * D.x T i
  dlbt : ∀ (r : Fin 32) (o : Fin 8960), s.dlbt (ix2 r o)
    = ∑ T ∈ range (seen k (j + 1) o), D.XA T r * D.G T o
  dm : ∀ (u : Fin 1) (o : Fin 8960), s.dm (ix2 u o)
    = if k = 63 ∧ j = 6 then Ideal.div (∑ T ∈ range (seen k (j + 1) o), D.DY T o * D.Z T o) (D.N o)
      else ∑ T ∈ range (seen k (j + 1) o), D.DY T o * D.Z T o

/-- What a point leaves is what the next one finds. -/
theorem After.next {D : Data} {k j : ℕ} {s : Acc Ideal} (h : After D k j s) (hj : j < 6) : Before D k (j + 1) s where
  xa _ := h.xa
  xat _ := h.xat
  xo _ := h.xo
  dx _ := h.dx
  gbt _ := h.gbt
  dla _ r i := by rw [h.dla, if_neg (by omega)]
  dlbt _ := h.dlbt
  dm _ u o := by rw [h.dm, if_neg (by omega)]

/-- What a token block's last point leaves is what the next token block finds. -/
theorem After.wrap {D : Data} {k : ℕ} {s : Acc Ideal} (h : After D k 6 s) (hk : k < 63) : Before D (k + 1) 0 s where
  xa e := absurd rfl e
  xat e := absurd rfl e
  xo e := absurd rfl e
  dx e := absurd rfl e
  gbt e := absurd rfl e
  dla _ r i := by rw [h.dla, if_pos rfl]
  dlbt _ r o := by
    rw [h.dlbt, seen, seen, if_pos (by have := o.isLt; omega), if_neg (by omega)]
  dm _ u o := by
    rw [h.dm, if_neg (by omega), seen, seen, if_pos (by have := o.isLt; omega), if_neg (by omega)]

section Point

variable {D : Data} {k j : ℕ} {i : grid1.Coords} {I : Ins Ideal} {s : Acc Ideal}
variable (hI : InsOk D k j I) (hs : Before D k j s) (hj : (i 1).val = j)
variable (h1 : cond1 i ↔ k = 0 ∧ j = 0) (h2 : k1_cond2 i = 1#1 ↔ j = 0)
variable (h3 : k1_cond3 i = 1#1 ↔ j = 6) (h4 : k1_cond4 i = 1#1 ↔ k = 63 ∧ j = 6)
include hI hs

/-- A token block's projection, after the second block of the body. -/
theorem mid_xa (h2 : k1_cond2 i = 1#1 ↔ j = 0) (a : Fin 512) (r : Fin 32) :
    (step2 i I (step1 i s)).xa (ix2 a r) = D.XA (512 * k + a) r := by
  show (if k1_cond2 i = 1#1 then k1_pay11 I.x I.la else s.xa) (ix2 a r) = _
  by_cases h : j = 0
  · rw [if_pos (h2.mpr h), pay11_apply, Data.XA, Finset.sum_range]
    simp only [hI.x, hI.la]
  · rw [if_neg (fun e => h (h2.mp e)), hs.xa h]

theorem mid_xat (h2 : k1_cond2 i = 1#1 ↔ j = 0) (a : Fin 512) (r : Fin 32) :
    (step2 i I (step1 i s)).xat (ix2 r a) = D.XA (512 * k + a) r := by
  show (if k1_cond2 i = 1#1 then k1_pay12 I.x I.la else s.xat) (ix2 r a) = _
  by_cases h : j = 0
  · rw [if_pos (h2.mpr h), pay12_apply, Data.XA, Finset.sum_range]
    simp only [hI.x, hI.la]
  · rw [if_neg (fun e => h (h2.mp e)), hs.xat h]

theorem mid_xo (h2 : k1_cond2 i = 1#1 ↔ j = 0) (a : Fin 512) (r : Fin 32) :
    (step2 i I (step1 i s)).xo (ix2 a r) = D.XA (512 * k + a) r := by
  show (if k1_cond2 i = 1#1 then k1_pay13 I.x I.la else s.xo) (ix2 a r) = _
  by_cases h : j = 0
  · rw [if_pos (h2.mpr h), pay13_apply, Data.XA, Finset.sum_range]
    simp only [hI.x, hI.la]
  · rw [if_neg (fun e => h (h2.mp e)), hs.xo h]

omit hI in
theorem mid_dx (h2 : k1_cond2 i = 1#1 ↔ j = 0) (a : Fin 512) (d : Fin 1536) :
    (step2 i I (step1 i s)).dx (ix2 a d) = ∑ o ∈ range (1280 * j), D.G (512 * k + a) o * D.ws o * D.w o d := by
  show (if k1_cond2 i = 1#1 then k1_pay14 (F := Ideal) else s.dx) (ix2 a d) = _
  by_cases h : j = 0
  · rw [if_pos (h2.mpr h), pay14_apply, h, Nat.mul_zero, Finset.range_zero, Finset.sum_empty]
  · rw [if_neg (fun e => h (h2.mp e)), hs.dx h]

omit hI in
theorem mid_gbt (h2 : k1_cond2 i = 1#1 ↔ j = 0) (a : Fin 512) (r : Fin 32) :
    (step2 i I (step1 i s)).gbt (ix2 r a) = ∑ o ∈ range (1280 * j), D.lb o r * D.G (512 * k + a) o := by
  show (if k1_cond2 i = 1#1 then k1_pay15 (F := Ideal) else s.gbt) (ix2 r a) = _
  by_cases h : j = 0
  · rw [if_pos (h2.mpr h), pay15_apply, h, Nat.mul_zero, Finset.range_zero, Finset.sum_empty]
  · rw [if_neg (fun e => h (h2.mp e)), hs.gbt h]

omit hI in
theorem mid_dla (h1 : cond1 i ↔ k = 0 ∧ j = 0) (r : Fin 32) (d : Fin 1536) :
    (step1 i s).dla (ix2 r d) = ∑ T ∈ range (512 * k), D.GB T r * D.x T d := by
  show (if cond1 i then k1_pay7 (F := Ideal) else s.dla) (ix2 r d) = _
  by_cases h : k = 0 ∧ j = 0
  · rw [if_pos (h1.mpr h), pay7_apply, h.1, Nat.mul_zero, Finset.range_zero, Finset.sum_empty]
  · rw [if_neg (fun e => h (h1.mp e)), hs.dla h]

omit hI in
theorem mid_dlbt (h1 : cond1 i ↔ k = 0 ∧ j = 0) (r : Fin 32) (o : Fin 8960) :
    (step1 i s).dlbt (ix2 r o) = ∑ T ∈ range (seen k j o), D.XA T r * D.G T o := by
  show (if cond1 i then k1_pay8 (F := Ideal) else s.dlbt) (ix2 r o) = _
  by_cases h : k = 0 ∧ j = 0
  · rw [if_pos (h1.mpr h), pay8_apply, h.1, h.2, seen_zero, Finset.range_zero, Finset.sum_empty]
  · rw [if_neg (fun e => h (h1.mp e)), hs.dlbt h]

omit hI in
theorem mid_dm (h1 : cond1 i ↔ k = 0 ∧ j = 0) (u : Fin 1) (o : Fin 8960) :
    (step1 i s).dm (ix2 u o) = ∑ T ∈ range (seen k j o), D.DY T o * D.Z T o := by
  show (if cond1 i then k1_pay9 (F := Ideal) else s.dm) (ix2 u o) = _
  by_cases h : k = 0 ∧ j = 0
  · rw [if_pos (h1.mpr h), pay9_apply, h.1, h.2, seen_zero, Finset.range_zero, Finset.sum_empty]
  · rw [if_neg (fun e => h (h1.mp e)), hs.dm h]

end Point

section Point

variable {D : Data} {k j : ℕ} {i : grid1.Coords} {I : Ins Ideal}
variable (hI : InsOk D k j I) (hj : (i 1).val = j)
include hI hj

theorem ldw (q : Fin 1280) (d : Fin 1536) : View.ld I.w (rW i) (ix2 q d) = D.w (1280 * j + q) d :=
  (ld_rW i I.w q d).trans ((hI.w _ d).trans (by simp only [hj]))
theorem ldlb (q : Fin 1280) (r : Fin 32) : View.ld I.lb (rB i) (ix2 q r) = D.lb (1280 * j + q) r :=
  (ld_rB i I.lb q r).trans ((hI.lb _ r).trans (by simp only [hj]))
theorem ldlbt (r : Fin 32) (q : Fin 1280) : View.ld I.lbt (rT i) (ix2 r q) = D.lb (1280 * j + q) r :=
  (ld_rT i I.lbt r q).trans ((hI.lbt r _).trans (by simp only [hj]))
theorem ldws (q : Fin 1280) : View.ld I.ws (rV i) (ix2 0 q) = D.ws (1280 * j + q) :=
  (ld_rV i I.ws 0 q).trans ((hI.ws _).trans (by simp only [hj]))
theorem ldc (q : Fin 1280) : View.ld I.c (rV i) (ix2 0 q) = D.C (1280 * j + q) :=
  (ld_rV i I.c 0 q).trans ((hI.c _).trans (by simp only [hj]))

/-- A block of `z`, computed. -/
theorem zF_val (xa : Vec Ideal S512x32 .bf16) (hxa : ∀ (a : Fin 512) (r : Fin 32), xa (ix2 a r) = D.XA (512 * k + a) r) (a : Fin 512) (q : Fin 1280) :
    zF i I.w I.ws I.x xa I.lb (ix2 a q) = D.Z (512 * k + a) (1280 * j + q) := by
  rw [zF, pay18_apply, Data.Z, Finset.sum_range, Finset.sum_range, ldws hI hj]
  refine congrArg₂ (· + ·) (congrArg₂ (· * ·) rfl (Finset.sum_congr rfl fun d _ => ?_)) (Finset.sum_congr rfl fun r _ => ?_)
  · rw [ldw hI hj, hI.x]
  · rw [ldlb hI hj, hxa]

/-- A block of `z`, stored. -/
theorem zB_val (xa : Vec Ideal S512x32 .bf16) (hxa : ∀ (a : Fin 512) (r : Fin 32), xa (ix2 a r) = D.XA (512 * k + a) r) (a : Fin 512) (q : Fin 1280) :
    zB i I.w I.ws I.x xa I.lb (ix2 a q) = D.Z (512 * k + a) (1280 * j + q) := by
  rw [← zF_val hI hj xa hxa a q, zF, zB, pay18_apply, pay19_apply]

/-- A block of `g`. -/
theorem gM_val (a : Fin 512) (q : Fin 1280) :
    gM i I.c I.dy I.dys (ix2 a q) = D.G (512 * k + a) (1280 * j + q) := by
  rw [gM, pay24_apply, Data.G, ldc hI hj, hI.dy, hI.dys]

/-- The running sum of `dx` takes the column block's part. -/
theorem dxM_val (dx : Vec Ideal S512x1536 .f32) (a : Fin 512) (d : Fin 1536)
    (h : dx (ix2 a d) = ∑ o ∈ range (1280 * j), D.G (512 * k + a) o * D.ws o * D.w o d) :
    dxM i I.w I.ws I.c I.dy I.dys dx (ix2 a d) = ∑ o ∈ range (1280 * (j + 1)), D.G (512 * k + a) o * D.ws o * D.w o d := by
  rw [dxM, pay25_apply, h, Nat.mul_succ, Finset.sum_range_add, Finset.sum_range (n := 1280)]
  refine congrArg₂ (· + ·) rfl (Finset.sum_congr rfl fun q _ => ?_)
  rw [ldc hI hj, ldws hI hj, ldw hI hj, hI.dy, hI.dys, Data.G]

/-- The running sum of `gb` takes the column block's part. -/
theorem gbtM_val (gbt : Vec Ideal S32x512 .f32) (a : Fin 512) (r : Fin 32)
    (h : gbt (ix2 r a) = ∑ o ∈ range (1280 * j), D.lb o r * D.G (512 * k + a) o) :
    gbtM i I.lbt I.c I.dy I.dys gbt (ix2 r a) = ∑ o ∈ range (1280 * (j + 1)), D.lb o r * D.G (512 * k + a) o := by
  rw [gbtM, pay26_apply, h, Nat.mul_succ, Finset.sum_range_add, Finset.sum_range (n := 1280)]
  refine congrArg₂ (· + ·) rfl (Finset.sum_congr rfl fun q _ => ?_)
  rw [ldc hI hj, ldlbt hI hj, hI.dy, hI.dys, Data.G]

/-- The gradient of `lora_b` takes the token block's part in the column block's columns. -/
theorem dlbtM_val (xat : Vec Ideal S32x512 .bf16) (hx : ∀ (a : Fin 512) (r : Fin 32), xat (ix2 r a) = D.XA (512 * k + a) r)
    (dlbt : Vec Ideal S32x8960 .f32)
    (h : ∀ (r : Fin 32) (o : Fin 8960), dlbt (ix2 r o) = ∑ T ∈ range (seen k j o), D.XA T r * D.G T o) (r : Fin 32) (o : Fin 8960) :
    dlbtM i I.c I.dy I.dys xat dlbt (ix2 r o) = ∑ T ∈ range (seen k (j + 1) o), D.XA T r * D.G T o := by
  rw [dlbtM]
  by_cases ho : o.val < 1280 * j ∨ 1280 * j + 1280 ≤ o.val
  · rw [overlay_rT_not i _ _ _ _ (by rw [hj]; exact ho), h, seen_succ_not k j o ho]
  · obtain ⟨q, hq⟩ : ∃ q : Fin 1280, o.val = 1280 * j + q.val := ⟨⟨o.val - 1280 * j, by omega⟩, by simp only; omega⟩
    rw [overlay_rT_mem i _ _ _ _ q (by rw [hj]; exact hq), pay1_apply, hq, (seen_succ_mem k j q q.isLt).1, Finset.sum_range_add]
    refine congrArg₂ (· + ·) ?_ ?_
    · refine (ld_rT i dlbt r q).trans ((h r _).trans ?_)
      simp only [hj]
    · rw [(seen_succ_mem k j q q.isLt).2, Finset.sum_range (n := 512)]
      exact Finset.sum_congr rfl fun a _ => by rw [hx, gM_val hI hj]

/-- The sums of `dm` take the token block's part in the column block's columns. -/
theorem dmM_val (xa : Vec Ideal S512x32 .bf16) (hxa : ∀ (a : Fin 512) (r : Fin 32), xa (ix2 a r) = D.XA (512 * k + a) r)
    (dm : Vec Ideal S1x8960 .f32)
    (h : ∀ (u : Fin 1) (o : Fin 8960), dm (ix2 u o) = ∑ T ∈ range (seen k j o), D.DY T o * D.Z T o) (u : Fin 1) (o : Fin 8960) :
    dmM i I.w I.ws I.x xa I.lb I.dy I.dys dm (ix2 u o) = ∑ T ∈ range (seen k (j + 1) o), D.DY T o * D.Z T o := by
  rw [dmM]
  by_cases ho : o.val < 1280 * j ∨ 1280 * j + 1280 ≤ o.val
  · rw [overlay_rV_not i _ _ _ _ (by rw [hj]; exact ho), h, seen_succ_not k j o ho]
  · obtain ⟨q, hq⟩ : ∃ q : Fin 1280, o.val = 1280 * j + q.val := ⟨⟨o.val - 1280 * j, by omega⟩, by simp only; omega⟩
    rw [overlay_rV_mem i _ _ _ _ q (by rw [hj]; exact hq), pay23_apply, hq, (seen_succ_mem k j q q.isLt).1, Finset.sum_range_add]
    refine congrArg₂ (· + ·) ?_ ?_
    · refine (ld_rV i dm u q).trans ((h u _).trans ?_)
      simp only [hj]
    · rw [(seen_succ_mem k j q q.isLt).2, Finset.sum_range (n := 512)]
      exact Finset.sum_congr rfl fun a _ => by rw [zF_val hI hj xa hxa, hI.dy, hI.dys, Data.DY]

end Point

theorem stepM_dm (i : grid1.Coords) (I : Ins Ideal) (s : Acc Ideal) : (stepM i I (step2 i I (step1 i s))).dm
    = dmM i I.w I.ws I.x (step2 i I (step1 i s)).xa I.lb I.dy I.dys (step1 i s).dm := by
  simp only [stepM, step2]

/-- THE INDUCTION STEP: a point that finds the partial sums leaves the partial sums with its own parts taken in. -/
theorem step_after {D : Data} {k j : ℕ} {i : grid1.Coords} {I : Ins Ideal} {s : Acc Ideal}
    (hI : InsOk D k j I) (hs : Before D k j s) (hj : (i 1).val = j)
    (h1 : cond1 i ↔ k = 0 ∧ j = 0) (h2 : k1_cond2 i = 1#1 ↔ j = 0)
    (h3 : k1_cond3 i = 1#1 ↔ j = 6) (h4 : k1_cond4 i = 1#1 ↔ k = 63 ∧ j = 6) : After D k j (step i I s) where
  xa a r := by rw [step_xa]; exact mid_xa hI hs h2 a r
  xat a r := by rw [step_xat]; exact mid_xat hI hs h2 a r
  xo a r := by rw [step_xo]; exact mid_xo hI hs h2 a r
  dx a d := by rw [step_dx]; exact dxM_val hI hj _ a d (mid_dx hs h2 a d)
  gbt a r := by rw [step_gbt]; exact gbtM_val hI hj _ a r (mid_gbt hs h2 a r)
  dlbt r o := by rw [step_dlbt]; exact dlbtM_val hI hj _ (mid_xat hI hs h2) _ (mid_dlbt hs h1) r o
  dm u o := by
    have e : (stepM i I (step2 i I (step1 i s))).dm (ix2 u o) = ∑ T ∈ range (seen k (j + 1) o), D.DY T o * D.Z T o := by
      rw [stepM_dm]
      exact dmM_val hI hj (step2 i I (step1 i s)).xa (mid_xa hI hs h2) (step1 i s).dm (mid_dm hs h1) u o
    rw [step_dm]
    by_cases h : k = 63 ∧ j = 6
    · rw [if_pos (h4.mpr h), if_pos h, pay6_apply, e, show u = 0 from Subsingleton.elim _ _, hI.n]
    · rw [if_neg (fun x => h (h4.mp x)), if_neg h, e]
  dla r d := by
    rw [step_dla]
    by_cases h : j = 6
    · rw [if_pos (h3.mpr h), if_pos h, pay4_apply, mid_dla hs h1, Nat.mul_succ, Finset.sum_range_add, Finset.sum_range (n := 512)]
      refine congrArg _ (Finset.sum_congr rfl fun a _ => ?_)
      have e : (stepM i I (step2 i I (step1 i s))).gbt (ix2 r a) = D.GB (512 * k + a) r := by
        rw [Data.GB, show (8960 : ℕ) = 1280 * (j + 1) from by rw [h]]
        exact gbtM_val hI hj _ a r (mid_gbt hs h2 a r)
      rw [e, hI.x]
    · rw [if_neg (fun x => h (h3.mp x)), if_neg h, mid_dla hs h1]

end Cert.KernelIdeal.Body

end
-- ==== Proof.KernelIdeal.Norm.lean ====
module

public import proofs.«01_k».proof.Proof.KernelIdeal.Compose
public import proofs.«01_k».proof.Proof.KernelIdeal.State
public import Idealize.ShloMosaic.Lib.Pipeline.ValueKit

/-! # What the norm call leaves

The arguments of the kernel as `Data` (`argsD`), and the two arrays the first call writes, the row norms and the row
factors, in them. -/

@[expose] public section

set_option maxRecDepth 16384

noncomputable section

namespace Cert.KernelIdeal.Body

open Cert.KernelIdeal Cert.KernelIdeal.Gen
open Idealize.ShloMosaic Idealize.ShloMosaic.TcCoe
open Idealize.ShloMosaic.Pipeline (Dat)
open Cert.Dora (Data)
open Finset (range)

variable (m : (ℓ : Loc nD τ sig) → Buf (Elt Ideal) ℓ) (ρ : Dev nD → PrngReg) (c : Dev nD)

/-- The argument arrays of core `c` as functions of their indices. -/
def argsD : Data :=
  Cert.Dora.ofArgs (fun b s i => (m ((c : Thread nD τ).loc main_arg0) : Vec Ideal S16x2048x1536 .bf16) (ix3 b s i))
    (fun o i => (m ((c : Thread nD τ).loc main_arg1) : Vec Ideal S8960x1536 .fp8e4m3) (ix2 o i))
    (fun o => (m ((c : Thread nD τ).loc main_arg2) : Vec Ideal S8960 .f32) (ix1 o))
    (fun r i => (m ((c : Thread nD τ).loc main_arg3) : Vec Ideal S32x1536 .bf16) (ix2 r i))
    (fun o r => (m ((c : Thread nD τ).loc main_arg4) : Vec Ideal S8960x32 .bf16) (ix2 o r))
    (fun o => (m ((c : Thread nD τ).loc main_arg5) : Vec Ideal S8960 .f32) (ix1 o))
    (fun b s o => (m ((c : Thread nD τ).loc main_arg6) : Vec Ideal S16x2048x8960 .fp8e5m2) (ix3 b s o))
    (fun b s => (m ((c : Thread nD τ).loc main_arg7) : Vec Ideal S16x2048 .f32) (ix2 b s))

/-! Each argument at natural-number indices is its array read there. -/

theorem argsD_x (T i : ℕ) (hT : T < 32768) (hi : i < 1536) : (argsD m c).x T i
    = (m ((c : Thread nD τ).loc main_arg0) : Vec Ideal S16x2048x1536 .bf16) (ix3 ⟨T / 2048, by omega⟩ ⟨T % 2048, by omega⟩ ⟨i, hi⟩) := by
  simp only [argsD, Cert.Dora.ofArgs]; exact Cert.Dora.ext2_mk _ T i hT hi
theorem argsD_w (o i : ℕ) (ho : o < 8960) (hi : i < 1536) : (argsD m c).w o i
    = (m ((c : Thread nD τ).loc main_arg1) : Vec Ideal S8960x1536 .fp8e4m3) (ix2 ⟨o, ho⟩ ⟨i, hi⟩) := by
  simp only [argsD, Cert.Dora.ofArgs]; exact Cert.Dora.ext2_mk _ o i ho hi
theorem argsD_ws (o : ℕ) (ho : o < 8960) : (argsD m c).ws o
    = (m ((c : Thread nD τ).loc main_arg2) : Vec Ideal S8960 .f32) (ix1 ⟨o, ho⟩) := by
  simp only [argsD, Cert.Dora.ofArgs]; exact Cert.Dora.ext1_mk _ o ho
theorem argsD_la (r i : ℕ) (hr : r < 32) (hi : i < 1536) : (argsD m c).la r i
    = (m ((c : Thread nD τ).loc main_arg3) : Vec Ideal S32x1536 .bf16) (ix2 ⟨r, hr⟩ ⟨i, hi⟩) := by
  simp only [argsD, Cert.Dora.ofArgs]; exact Cert.Dora.ext2_mk _ r i hr hi
theorem argsD_lb (o r : ℕ) (ho : o < 8960) (hr : r < 32) : (argsD m c).lb o r
    = (m ((c : Thread nD τ).loc main_arg4) : Vec Ideal S8960x32 .bf16) (ix2 ⟨o, ho⟩ ⟨r, hr⟩) := by
  simp only [argsD, Cert.Dora.ofArgs]; exact Cert.Dora.ext2_mk _ o r ho hr
theorem argsD_m (o : ℕ) (ho : o < 8960) : (argsD m c).m o
    = (m ((c : Thread nD τ).loc main_arg5) : Vec Ideal S8960 .f32) (ix1 ⟨o, ho⟩) := by
  simp only [argsD, Cert.Dora.ofArgs]; exact Cert.Dora.ext1_mk _ o ho
theorem argsD_dy (T o : ℕ) (hT : T < 32768) (ho : o < 8960) : (argsD m c).dy T o
    = (m ((c : Thread nD τ).loc main_arg6) : Vec Ideal S16x2048x8960 .fp8e5m2) (ix3 ⟨T / 2048, by omega⟩ ⟨T % 2048, by omega⟩ ⟨o, ho⟩) := by
  simp only [argsD, Cert.Dora.ofArgs]; exact Cert.Dora.ext2_mk _ T o hT ho
theorem argsD_dys (T : ℕ) (hT : T < 32768) : (argsD m c).dys T
    = (m ((c : Thread nD τ).loc main_arg7) : Vec Ideal S16x2048 .f32) (ix2 ⟨T / 2048, by omega⟩ ⟨T % 2048, by omega⟩) := by
  simp only [argsD, Cert.Dora.ofArgs]; exact Cert.Dora.ext1_mk _ T hT

/-! ## The arrays the call enters with -/

theorem V1_v0 : V1 m ρ c main_v0 = shapeCast S8960x1 (m ((c : Thread nD τ).loc main_arg2)) shapeCasts_S8960_S8960x1 := by
  show StableHlo.after hostOps0 (W0 m ρ c) (Proc.devRef .tc main_v0) = _
  simp only [Gen.hostOps0]
  after_results_simp
  rfl

theorem V1_v1 : V1 m ρ c main_v1 = shapeCast S1x8960 (m ((c : Thread nD τ).loc main_arg5)) shapeCasts_S8960_S1x8960 := by
  show StableHlo.after hostOps0 (W0 m ρ c) (Proc.devRef .tc main_v1) = _
  simp only [Gen.hostOps0]
  after_results_simp
  rfl

theorem col_apply (X : Vec Ideal S8960 .f32) (h) (o : Fin 8960) : shapeCast S8960x1 X h (ix2 o 0) = X (ix1 o) := by pointwise
theorem row_apply (X : Vec Ideal S8960 .f32) (h) (u : Fin 1) (o : Fin 8960) : shapeCast S1x8960 X h (ix2 u o) = X (ix1 o) := by pointwise

theorem V1_v0_apply (o : Fin 8960) : (V1 m ρ c main_v0 : Vec Ideal S8960x1 .f32) (ix2 o 0) = (argsD m c).ws o := by
  rw [argsD_ws m c o o.isLt, V1_v0]
  exact col_apply _ _ o

theorem V1_v1_apply (u : Fin 1) (o : Fin 8960) : (V1 m ρ c main_v1 : Vec Ideal S1x8960 .f32) (ix2 u o) = (argsD m c).m o := by
  rw [argsD_m m c o o.isLt, V1_v1]
  exact row_apply _ _ u o

theorem V1_arg1 : V1 m ρ c main_arg1 = m ((c : Thread nD τ).loc main_arg1) := W1_args m ρ c _ (by decide)
theorem V1_arg3 : V1 m ρ c main_arg3 = m ((c : Thread nD τ).loc main_arg3) := W1_args m ρ c _ (by decide)
theorem V1_arg4 : V1 m ρ c main_arg4 = m ((c : Thread nD τ).loc main_arg4) := W1_args m ρ c _ (by decide)

/-- Every window's block index at a point: the point's number on the axis the call walks. -/
theorem idx0 : ∀ t : Fin cfg0.N, win0_0.index t = ![t.val, 0] ∧ win0_1.index t = ![t.val, 0] ∧ win0_2.index t = ![0, 0]
    ∧ win0_3.index t = ![t.val, 0] ∧ win0_4.index t = ![0, t.val] ∧ win0_5.index t = ![0, t.val] ∧ win0_6.index t = ![0, t.val] :=
  (by decide +kernel : ∀ t : Fin grid0.N, _)

theorem N0 (t : Fin cfg0.N) : t.val < 7 := t.isLt

/-! ## The call's input blocks in the arguments -/

theorem iblk0_w (t : Fin cfg0.N) (o : Fin 1280) (i : Fin 1536) :
    (iblk0 (V1 m ρ) c 0 t : Vec Ideal S1280x1536 .fp8e4m3) (ix2 o i) = (argsD m c).w (1280 * t.val + o) i := by
  have ht := N0 t
  rw [argsD_w m c _ _ (by omega) i.isLt]
  blk_simp [iblk0, V1_arg1]
  blk_ext [(idx0 t).1]

theorem iblk0_ws (t : Fin cfg0.N) (o : Fin 1280) :
    (iblk0 (V1 m ρ) c 1 t : Vec Ideal S1280x1 .f32) (ix2 o 0) = (argsD m c).ws (1280 * t.val + o) := by
  have ht := N0 t
  refine .trans ?_ (V1_v0_apply m ρ c ⟨1280 * t.val + o, by omega⟩)
  blk_simp [iblk0]
  blk_ext [(idx0 t).2.1]

theorem iblk0_la (t : Fin cfg0.N) (r : Fin 32) (i : Fin 1536) :
    (iblk0 (V1 m ρ) c 2 t : Vec Ideal S32x1536 .bf16) (ix2 r i) = (argsD m c).la r i := by
  rw [argsD_la m c _ _ r.isLt i.isLt]
  blk_simp [iblk0, V1_arg3]
  blk_ext [(idx0 t).2.2.1]

theorem iblk0_lb (t : Fin cfg0.N) (o : Fin 1280) (r : Fin 32) :
    (iblk0 (V1 m ρ) c 3 t : Vec Ideal S1280x32 .bf16) (ix2 o r) = (argsD m c).lb (1280 * t.val + o) r := by
  have ht := N0 t
  rw [argsD_lb m c _ _ (by omega) r.isLt]
  blk_simp [iblk0, V1_arg4]
  blk_ext [(idx0 t).2.2.2.1]

theorem iblk0_m (t : Fin cfg0.N) (u : Fin 1) (o : Fin 1280) :
    (iblk0 (V1 m ρ) c 4 t : Vec Ideal S1x1280 .f32) (ix2 u o) = (argsD m c).m (1280 * t.val + o) := by
  have ht := N0 t
  refine .trans ?_ (V1_v1_apply m ρ c u ⟨1280 * t.val + o, by omega⟩)
  blk_simp [iblk0]
  blk_ext [(idx0 t).2.2.2.2.1]

/-! ## The call's results -/

/-- The block of norms at point `t`. -/
theorem norms_val (t : Fin cfg0.N) (y : S1x1280.Idx) :
    k0_pay1 (F := Ideal) (iblk0 (V1 m ρ) c 0 t) (iblk0 (V1 m ρ) c 1 t) (iblk0 (V1 m ρ) c 3 t) (iblk0 (V1 m ρ) c 2 t) y
      = (argsD m c).N (1280 * t.val + (y 1).val) := by
  rw [eq_ix2 y]
  exact npay1_apply (argsD m c) (1280 * t.val) _ _ _ _ (iblk0_w m ρ c t) (iblk0_ws m ρ c t) (iblk0_lb m ρ c t) (iblk0_la m ρ c t) (y 0) (y 1)

/-- The block of factors at point `t`. -/
theorem factors_val (t : Fin cfg0.N) (y : S1x1280.Idx) :
    k0_pay2 (F := Ideal) (iblk0 (V1 m ρ) c 0 t) (iblk0 (V1 m ρ) c 1 t) (iblk0 (V1 m ρ) c 3 t) (iblk0 (V1 m ρ) c 2 t) (iblk0 (V1 m ρ) c 4 t) y
      = (argsD m c).C (1280 * t.val + (y 1).val) := by
  rw [Data.C, ← norms_val m ρ c t y, eq_ix2 y]
  exact (npay2_apply _ _ _ _ _ (y 0) (y 1)).trans (congrArg (Ideal.div · _) (iblk0_m m ρ c t (y 0) (y 1)))

theorem idx0_5 (t : Fin cfg0.N) : win0_5.index t 1 = t.val := by rw [(idx0 t).2.2.2.2.2.1]; rfl
theorem idx0_6 (t : Fin cfg0.N) : win0_6.index t 1 = t.val := by rw [(idx0 t).2.2.2.2.2.2]; rfl

/-- The array of norms. -/
theorem arr0_5 : (dat0 (V1 m ρ) c).arrAt 5 cfg0.N = fun j : S1x8960.Idx => (argsD m c).N (j 1).val := by
  refine (dat0 (V1 m ρ) c).arrAt_eq_of_covers 5 _ (by decide +kernel) fun t hf y => ?_
  blk_simp
  rw [after0_5]
  unfold out0_5
  frame_out
  refine (norms_val m ρ c t y).trans (congrArg _ ?_)
  rw [idx0_5, Nat.mul_comm]

/-- The array of factors. -/
theorem arr0_6 : (dat0 (V1 m ρ) c).arrAt 6 cfg0.N = fun j : S1x8960.Idx => (argsD m c).C (j 1).val := by
  refine (dat0 (V1 m ρ) c).arrAt_eq_of_covers 6 _ (by decide +kernel) fun t hf y => ?_
  blk_simp
  rw [after0_6]
  unfold out0_6
  frame_out
  refine (factors_val m ρ c t y).trans (congrArg _ ?_)
  rw [idx0_6, Nat.mul_comm]

end Cert.KernelIdeal.Body

end
-- ==== Proof.KernelIdeal.Entry.lean ====
module

public import proofs.«01_k».proof.Proof.KernelIdeal.Norm

/-! # What the backward call reads, in the arguments

Each array the second call enters with, and each block it reads at a grid point, as the arguments' functions
(`insAt_ok`); then the state after every point (`after_all`), by induction over the points. -/

@[expose] public section

set_option maxRecDepth 16384

noncomputable section

namespace Cert.KernelIdeal.Body

open Cert.KernelIdeal Cert.KernelIdeal.Gen
open Idealize.ShloMosaic Idealize.ShloMosaic.TcCoe
open Idealize.ShloMosaic.Pipeline (Dat)
open Cert.Dora (Data)
open Finset (range)

variable (m : (ℓ : Loc nD τ sig) → Buf (Elt Ideal) ℓ) (ρ : Dev nD → PrngReg) (c : Dev nD)

/-! ## The reshapes before the call, at an index -/

theorem tokens_x (X : Vec Ideal S16x2048x1536 .bf16) (h) (T : Fin 32768) (i : Fin 1536) :
    shapeCast S32768x1536 X h (ix2 T i) = X (ix3 ⟨T.val / 2048, by omega⟩ ⟨T.val % 2048, by omega⟩ i) := by pointwise
theorem tokens_dy (X : Vec Ideal S16x2048x8960 .fp8e5m2) (h) (T : Fin 32768) (o : Fin 8960) :
    shapeCast S32768x8960 X h (ix2 T o) = X (ix3 ⟨T.val / 2048, by omega⟩ ⟨T.val % 2048, by omega⟩ o) := by pointwise
theorem tokens_dys (X : Vec Ideal S16x2048 .f32) (h) (T : Fin 32768) :
    shapeCast S32768x1 X h (ix2 T 0) = X (ix2 ⟨T.val / 2048, by omega⟩ ⟨T.val % 2048, by omega⟩) := by pointwise
theorem flip_lb (X : Vec Ideal S8960x32 .bf16) (h) (r : Fin 32) (o : Fin 8960) :
    transpose S32x8960 [1, 0] X h (ix2 r o) = X (ix2 o r) := by pointwise

/-! ## The arrays the call enters with -/

theorem V3_v3 : V3 m ρ c main_v3 = shapeCast S32768x1536 (W2 m ρ c main_arg0) shapeCasts_S16x2048x1536_S32768x1536 := by
  show StableHlo.after hostOps1 (W2 m ρ c) (Proc.devRef .tc main_v3) = _
  simp only [Gen.hostOps1]
  after_results_simp
  rfl
theorem V3_v4 : V3 m ρ c main_v4 = shapeCast S1x8960 (W2 m ρ c main_arg2) shapeCasts_S8960_S1x8960 := by
  show StableHlo.after hostOps1 (W2 m ρ c) (Proc.devRef .tc main_v4) = _
  simp only [Gen.hostOps1]
  after_results_simp
  rfl
theorem V3_v5 : V3 m ρ c main_v5 = transpose S32x8960 [1, 0] (W2 m ρ c main_arg4) transposes_S8960x32_S32x8960_1_0 := by
  show StableHlo.after hostOps1 (W2 m ρ c) (Proc.devRef .tc main_v5) = _
  simp only [Gen.hostOps1]
  after_results_simp
theorem V3_v6 : V3 m ρ c main_v6 = shapeCast S32768x8960 (W2 m ρ c main_arg6) shapeCasts_S16x2048x8960_S32768x8960 := by
  show StableHlo.after hostOps1 (W2 m ρ c) (Proc.devRef .tc main_v6) = _
  simp only [Gen.hostOps1]
  after_results_simp
  rfl
theorem V3_v7 : V3 m ρ c main_v7 = shapeCast S32768x1 (W2 m ρ c main_arg7) shapeCasts_S16x2048_S32768x1 := by
  show StableHlo.after hostOps1 (W2 m ρ c) (Proc.devRef .tc main_v7) = _
  simp only [Gen.hostOps1]
  after_results_simp
  rfl
theorem V3_n : V3 m ρ c main_v2_0 = fun j : S1x8960.Idx => (argsD m c).N (j 1).val :=
  (W3_of m ρ c main_v2_0 (by decide)).trans ((W2_arr m ρ c 5).trans (arr0_5 m ρ c))
theorem V3_c : V3 m ρ c main_v2_1 = fun j : S1x8960.Idx => (argsD m c).C (j 1).val :=
  (W3_of m ρ c main_v2_1 (by decide)).trans ((W2_arr m ρ c 6).trans (arr0_6 m ρ c))
theorem V3_arg1 : V3 m ρ c main_arg1 = m ((c : Thread nD τ).loc main_arg1) := W3_args m ρ c _ (by decide)
theorem V3_arg3 : V3 m ρ c main_arg3 = m ((c : Thread nD τ).loc main_arg3) := W3_args m ρ c _ (by decide)
theorem V3_arg4 : V3 m ρ c main_arg4 = m ((c : Thread nD τ).loc main_arg4) := W3_args m ρ c _ (by decide)

theorem V3_v3_apply (T : Fin 32768) (i : Fin 1536) : (V3 m ρ c main_v3 : Vec Ideal S32768x1536 .bf16) (ix2 T i) = (argsD m c).x T i := by
  rw [argsD_x m c T i T.isLt i.isLt, V3_v3, W2_args m ρ c main_arg0 (by decide)]
  exact tokens_x _ _ T i
theorem V3_v4_apply (u : Fin 1) (o : Fin 8960) : (V3 m ρ c main_v4 : Vec Ideal S1x8960 .f32) (ix2 u o) = (argsD m c).ws o := by
  rw [argsD_ws m c o o.isLt, V3_v4, W2_args m ρ c main_arg2 (by decide)]
  exact row_apply _ _ u o
theorem V3_v5_apply (r : Fin 32) (o : Fin 8960) : (V3 m ρ c main_v5 : Vec Ideal S32x8960 .bf16) (ix2 r o) = (argsD m c).lb o r := by
  rw [argsD_lb m c o r o.isLt r.isLt, V3_v5, W2_args m ρ c main_arg4 (by decide)]
  exact flip_lb _ _ r o
theorem V3_v6_apply (T : Fin 32768) (o : Fin 8960) : (V3 m ρ c main_v6 : Vec Ideal S32768x8960 .fp8e5m2) (ix2 T o) = (argsD m c).dy T o := by
  rw [argsD_dy m c T o T.isLt o.isLt, V3_v6, W2_args m ρ c main_arg6 (by decide)]
  exact tokens_dy _ _ T o
theorem V3_v7_apply (T : Fin 32768) : (V3 m ρ c main_v7 : Vec Ideal S32768x1 .f32) (ix2 T 0) = (argsD m c).dys T := by
  rw [argsD_dys m c T T.isLt, V3_v7, W2_args m ρ c main_arg7 (by decide)]
  exact tokens_dys _ _ T
theorem V3_arg1_apply (o : Fin 8960) (i : Fin 1536) : (V3 m ρ c main_arg1 : Vec Ideal S8960x1536 .fp8e4m3) (ix2 o i) = (argsD m c).w o i := by
  rw [argsD_w m c o i o.isLt i.isLt, V3_arg1]
theorem V3_arg3_apply (r : Fin 32) (i : Fin 1536) : (V3 m ρ c main_arg3 : Vec Ideal S32x1536 .bf16) (ix2 r i) = (argsD m c).la r i := by
  rw [argsD_la m c r i r.isLt i.isLt, V3_arg3]
theorem V3_arg4_apply (o : Fin 8960) (r : Fin 32) : (V3 m ρ c main_arg4 : Vec Ideal S8960x32 .bf16) (ix2 o r) = (argsD m c).lb o r := by
  rw [argsD_lb m c o r o.isLt r.isLt, V3_arg4]

/-! ## The blocks -/

/-- The blocks walk the tokens every seventh point, the columns of the gradient every point; the rest is read whole. -/
theorem idx1 : ∀ t : Fin cfg1.N, win1_0.index t = ![t.val / 7, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![t.val / 7, t.val % 7] ∧ win1_9.index t = ![t.val / 7, 0] :=
  (by decide +kernel : ∀ t : Fin grid1.N, _)

theorem N1 (t : Fin cfg1.N) : t.val < 448 := t.isLt

theorem iblk1_x (t : Fin cfg1.N) (a : Fin 512) (i : Fin 1536) :
    (iblk1 (V3 m ρ) c 0 t : Vec Ideal S512x1536 .bf16) (ix2 a i) = (argsD m c).x (512 * (t.val / 7) + a) i := by
  have ht := N1 t
  refine .trans ?_ (V3_v3_apply m ρ c ⟨512 * (t.val / 7) + a, by omega⟩ i)
  blk_simp [iblk1]
  blk_ext [(idx1 t).1]

theorem iblk1_ws (t : Fin cfg1.N) (o : Fin 8960) :
    (iblk1 (V3 m ρ) c 2 t : Vec Ideal S1x8960 .f32) (ix2 0 o) = (argsD m c).ws o := by
  refine .trans ?_ (V3_v4_apply m ρ c 0 o)
  blk_simp [iblk1]
  blk_ext [(idx1 t).2.2.1]

theorem iblk1_lb (t : Fin cfg1.N) (o : Fin 8960) (r : Fin 32) :
    (iblk1 (V3 m ρ) c 4 t : Vec Ideal S8960x32 .bf16) (ix2 o r) = (argsD m c).lb o r := by
  refine .trans ?_ (V3_arg4_apply m ρ c o r)
  blk_simp [iblk1]
  blk_ext [(idx1 t).2.2.2.2.1]

theorem iblk1_n (t : Fin cfg1.N) (o : Fin 8960) :
    (iblk1 (V3 m ρ) c 6 t : Vec Ideal S1x8960 .f32) (ix2 0 o) = (argsD m c).N o := by
  refine .trans ?_ (congrFun (V3_n m ρ c) (ix2 0 o))
  blk_simp [iblk1]
  blk_ext [(idx1 t).2.2.2.2.2.2.1]

theorem iblk1_dy (t : Fin cfg1.N) (a : Fin 512) (q : Fin 1280) :
    (iblk1 (V3 m ρ) c 8 t : Vec Ideal S512x1280 .fp8e5m2) (ix2 a q) = (argsD m c).dy (512 * (t.val / 7) + a) (1280 * (t.val % 7) + q) := by
  have ht := N1 t
  refine .trans ?_ (V3_v6_apply m ρ c ⟨512 * (t.val / 7) + a, by omega⟩ ⟨1280 * (t.val % 7) + q, by omega⟩)
  blk_simp [iblk1]
  blk_ext [(idx1 t).2.2.2.2.2.2.2.2.1]

theorem iblk1_w (t : Fin cfg1.N) (o : Fin 8960) (i : Fin 1536) :
    (iblk1 (V3 m ρ) c 1 t : Vec Ideal S8960x1536 .fp8e4m3) (ix2 o i) = (argsD m c).w o i := by
  refine .trans ?_ (V3_arg1_apply m ρ c o i)
  blk_simp [iblk1]
  blk_ext [(idx1 t).2.1]

theorem iblk1_la (t : Fin cfg1.N) (r : Fin 32) (i : Fin 1536) :
    (iblk1 (V3 m ρ) c 3 t : Vec Ideal S32x1536 .bf16) (ix2 r i) = (argsD m c).la r i := by
  refine .trans ?_ (V3_arg3_apply m ρ c r i)
  blk_simp [iblk1]
  blk_ext [(idx1 t).2.2.2.1]

theorem iblk1_lbt (t : Fin cfg1.N) (r : Fin 32) (o : Fin 8960) :
    (iblk1 (V3 m ρ) c 5 t : Vec Ideal S32x8960 .bf16) (ix2 r o) = (argsD m c).lb o r := by
  refine .trans ?_ (V3_v5_apply m ρ c r o)
  blk_simp [iblk1]
  blk_ext [(idx1 t).2.2.2.2.2.1]

theorem iblk1_c (t : Fin cfg1.N) (o : Fin 8960) :
    (iblk1 (V3 m ρ) c 7 t : Vec Ideal S1x8960 .f32) (ix2 0 o) = (argsD m c).C o := by
  refine .trans ?_ (congrFun (V3_c m ρ c) (ix2 0 o))
  blk_simp [iblk1]
  blk_ext [(idx1 t).2.2.2.2.2.2.2.1]

theorem iblk1_dys (t : Fin cfg1.N) (a : Fin 512) :
    (iblk1 (V3 m ρ) c 9 t : Vec Ideal S512x1 .f32) (ix2 a 0) = (argsD m c).dys (512 * (t.val / 7) + a) := by
  have ht := N1 t
  refine .trans ?_ (V3_v7_apply m ρ c ⟨512 * (t.val / 7) + a, by omega⟩)
  blk_simp [iblk1]
  blk_ext [(idx1 t).2.2.2.2.2.2.2.2.2]

/-- The blocks of a point are the arguments' blocks. -/
theorem insAt_ok (t : Fin cfg1.N) : InsOk (argsD m c) (t.val / 7) (t.val % 7) (insAt (V3 m ρ) c t) where
  x := iblk1_x m ρ c t
  w := iblk1_w m ρ c t
  ws := iblk1_ws m ρ c t
  la := iblk1_la m ρ c t
  lb := iblk1_lb m ρ c t
  lbt := iblk1_lbt m ρ c t
  n := iblk1_n m ρ c t
  c := iblk1_c m ρ c t
  dy := iblk1_dy m ρ c t
  dys := iblk1_dys m ρ c t

/-! ## The state after every point -/

theorem coord1_val (t : Fin grid1.N) : (grid1.coords t 1).val = t.val % 7 := by
  have e1 : (grid1.coords t 1).val = t.val / 1 % 7 := Pipeline.Grid.coords_val t 1 (by decide) rfl
  rw [e1, Nat.div_one]

/-- One point, from what it finds. -/
theorem after_point (t : Fin cfg1.N) (h : Before (argsD m c) (t.val / 7) (t.val % 7) (St (V3 m ρ) c t.val)) :
    After (argsD m c) (t.val / 7) (t.val % 7) (St (V3 m ρ) c (t.val + 1)) := by
  have ht := N1 t
  rw [St_succ]
  refine step_after (insAt_ok m ρ c t) h (coord1_val t) ?_ ?_ ?_ ?_
  · rw [cond1_iff]; omega
  · rw [cond2_iff]
  · rw [cond3_iff]
  · rw [cond4_iff]; omega

/-- The state before the first point is of no matter. -/
theorem before_first (D : Data) (s : Acc Ideal) : Before D 0 0 s where
  xa e := absurd rfl e
  xat e := absurd rfl e
  xo e := absurd rfl e
  dx e := absurd rfl e
  gbt e := absurd rfl e
  dla e := absurd ⟨rfl, rfl⟩ e
  dlbt e := absurd ⟨rfl, rfl⟩ e
  dm e := absurd ⟨rfl, rfl⟩ e

/-- The state after every point. -/
theorem after_all : ∀ (n : ℕ) (hn : n < 448), After (argsD m c) (n / 7) (n % 7) (St (V3 m ρ) c (n + 1))
  | 0, hn => after_point m ρ c ⟨0, hn⟩ (by
      show Before (argsD m c) (0 / 7) (0 % 7) (St (V3 m ρ) c 0)
      rw [Nat.zero_div, Nat.zero_mod]
      exact before_first _ _)
  | n + 1, hn => by
    have ih := after_all n (by omega)
    refine after_point m ρ c ⟨n + 1, hn⟩ ?_
    show Before (argsD m c) ((n + 1) / 7) ((n + 1) % 7) (St (V3 m ρ) c (n + 1))
    by_cases hj : n % 7 = 6
    · rw [show (n + 1) / 7 = n / 7 + 1 by omega, show (n + 1) % 7 = 0 by omega]
      rw [hj] at ih
      exact ih.wrap (by omega)
    · rw [show (n + 1) / 7 = n / 7 by omega, show (n + 1) % 7 = n % 7 + 1 by omega]
      exact ih.next (by omega)

end Cert.KernelIdeal.Body

end
-- ==== Proof.KernelIdeal.Results.lean ====
module

public import proofs.«01_k».proof.Proof.KernelIdeal.Entry

/-! # What the backward call leaves

Each of its seven result arrays, in the arguments: what the point that writes an element back holds there. -/

@[expose] public section

set_option maxRecDepth 16384

noncomputable section

namespace Cert.KernelIdeal.Body

open Cert.KernelIdeal Cert.KernelIdeal.Gen
open Idealize.ShloMosaic Idealize.ShloMosaic.TcCoe
open Idealize.ShloMosaic.Pipeline (Dat)
open Cert.Dora (Data)
open Finset (range)

variable (m : (ℓ : Loc nD τ sig) → Buf (Elt Ideal) ℓ) (ρ : Dev nD → PrngReg) (c : Dev nD)

/-- The state after a point, at the point. -/
theorem after_at (t : Fin cfg1.N) : After (argsD m c) (t.val / 7) (t.val % 7) (St (V3 m ρ) c (t.val + 1)) := after_all m ρ c t.val t.isLt

/-! ## The blocks written back -/

theorem dx_val_at (t : Fin cfg1.N) (h : t.val % 7 = 6) (a : Fin 512) (i : Fin 1536) :
    k1_pay3 (F := Ideal) (St (V3 m ρ) c (t.val + 1)).gbt (St (V3 m ρ) c (t.val + 1)).dx (insAt (V3 m ρ) c t).la (ix2 a i)
      = (argsD m c).DX (512 * (t.val / 7) + a) i := by
  have hs := after_at m ρ c t
  rw [h] at hs
  rw [pay3_apply, Data.DX, hs.dx, Finset.sum_range (n := 32)]
  refine congrArg _ (Finset.sum_congr rfl fun r _ => ?_)
  rw [hs.gbt, (insAt_ok m ρ c t).la]
  rfl

/-- A block of `dx`. -/
theorem dx_val (t : Fin cfg1.N) (h : t.val % 7 = 6) (y : S512x1536.Idx) :
    k1_pay3 (F := Ideal) (St (V3 m ρ) c (t.val + 1)).gbt (St (V3 m ρ) c (t.val + 1)).dx (insAt (V3 m ρ) c t).la y
      = (argsD m c).DX (512 * (t.val / 7) + (y 0).val) (y 1).val := by
  rw [eq_ix2 y]
  exact dx_val_at m ρ c t h (y 0) (y 1)

/-- A block of `gb`. -/
theorem gb_val (t : Fin cfg1.N) (h : t.val % 7 = 6) (y : S512x32.Idx) :
    k1_pay2 (F := Ideal) (St (V3 m ρ) c (t.val + 1)).gbt y = (argsD m c).GB (512 * (t.val / 7) + (y 0).val) (y 1).val := by
  have hs := after_at m ρ c t
  rw [h] at hs
  rw [eq_ix2 y]
  exact (pay2_apply _ (y 0) (y 1)).trans (hs.gbt (y 0) (y 1))

/-- A block of `xa`. -/
theorem xa_val (t : Fin cfg1.N) (y : S512x32.Idx) :
    (St (V3 m ρ) c (t.val + 1)).xo y = (argsD m c).XA (512 * (t.val / 7) + (y 0).val) (y 1).val := by
  rw [eq_ix2 y]
  exact (after_at m ρ c t).xo (y 0) (y 1)

/-- A block of `z`. -/
theorem z_val (t : Fin cfg1.N) (y : S512x1280.Idx) :
    zB (F := Ideal) (grid1.coords t) (insAt (V3 m ρ) c t).w (insAt (V3 m ρ) c t).ws (insAt (V3 m ρ) c t).x
        (St (V3 m ρ) c (t.val + 1)).xa (insAt (V3 m ρ) c t).lb y
      = (argsD m c).Z (512 * (t.val / 7) + (y 0).val) (1280 * (t.val % 7) + (y 1).val) := by
  rw [eq_ix2 y]
  exact zB_val (insAt_ok m ρ c t) (coord1_val t) _ (after_at m ρ c t).xa (y 0) (y 1)

/-- The last point. -/
theorem last_after : After (argsD m c) 63 6 (St (V3 m ρ) c 448) := after_all m ρ c 447 (by omega)

/-- The gradient of `lora_a`. -/
theorem dla_val (y : S32x1536.Idx) : k1_pay5 (F := Ideal) (St (V3 m ρ) c 448).dla y = (argsD m c).DLA (y 0).val (y 1).val := by
  rw [eq_ix2 y]
  exact (pay5_apply _ (y 0) (y 1)).trans ((last_after m ρ c).dla (y 0) (y 1))

theorem seen_last (o : Fin 8960) : seen 63 (6 + 1) o = 32768 := by
  rw [seen, if_pos (by omega)]

theorem dlbt_val_at (r : Fin 32) (o : Fin 8960) : (St (V3 m ρ) c 448).dlbt (ix2 r o) = (argsD m c).DLBT r o := by
  rw [(last_after m ρ c).dlbt, seen_last]
  rfl

/-- The transposed gradient of `lora_b`. -/
theorem dlbt_val (y : S32x8960.Idx) : (St (V3 m ρ) c 448).dlbt y = (argsD m c).DLBT (y 0).val (y 1).val := by
  rw [eq_ix2 y]
  exact dlbt_val_at m ρ c (y 0) (y 1)

theorem dm_val_at (u : Fin 1) (o : Fin 8960) : (St (V3 m ρ) c 448).dm (ix2 u o) = (argsD m c).DM o := by
  rw [(last_after m ρ c).dm, if_pos ⟨rfl, rfl⟩, seen_last]
  rfl

/-- The gradient of the magnitude. -/
theorem dm_val (y : S1x8960.Idx) : (St (V3 m ρ) c 448).dm y = (argsD m c).DM (y 1).val := by
  rw [eq_ix2 y]
  exact dm_val_at m ρ c (y 0) (y 1)

/-! ## The arrays -/

theorem oidx : ∀ t : Fin cfg1.N, (win1_10.index t 0 = t.val / 7 ∧ win1_10.index t 1 = 0) ∧ (win1_14.index t 0 = t.val / 7 ∧ win1_14.index t 1 = t.val % 7)
    ∧ (win1_15.index t 0 = t.val / 7 ∧ win1_15.index t 1 = 0) ∧ (win1_16.index t 0 = t.val / 7 ∧ win1_16.index t 1 = 0) :=
  (by decide +kernel : ∀ t : Fin grid1.N, _)

/-- The gradient of the activations, by token. -/
theorem arr1_10 : (dat1 (V3 m ρ) c).arrAt 10 cfg1.N = fun j : S32768x1536.Idx => (argsD m c).DX (j 0).val (j 1).val := by
  refine (dat1 (V3 m ρ) c).arrAt_eq_of_covers 10 _ (by decide +kernel) fun t hf y => ?_
  blk_simp
  rw [after1_10]
  refine (dx_val m ρ c t ((flush1_10 t).mp hf) y).trans ?_
  rw [(oidx t).1.1, (oidx t).1.2]
  congr 1
  · rw [Nat.mul_comm]
  · rw [Nat.zero_mul, Nat.zero_add]

/-- The layer's output before the magnitude, by token. -/
theorem arr1_14 : (dat1 (V3 m ρ) c).arrAt 14 cfg1.N = fun j : S32768x8960.Idx => (argsD m c).Z (j 0).val (j 1).val := by
  refine (dat1 (V3 m ρ) c).arrAt_eq_of_covers 14 _ (by decide +kernel) fun t hf y => ?_
  blk_simp
  rw [after1_14]
  refine (z_val m ρ c t y).trans ?_
  rw [(oidx t).2.1.1, (oidx t).2.1.2]
  congr 1
  · rw [Nat.mul_comm]
  · rw [Nat.mul_comm]

/-- The tokens projected by `lora_a`. -/
theorem arr1_15 : (dat1 (V3 m ρ) c).arrAt 15 cfg1.N = fun j : S32768x32.Idx => (argsD m c).XA (j 0).val (j 1).val := by
  refine (dat1 (V3 m ρ) c).arrAt_eq_of_covers 15 _ (by decide +kernel) fun t hf y => ?_
  blk_simp
  rw [after1_15]
  refine (xa_val m ρ c t y).trans ?_
  rw [(oidx t).2.2.1.1, (oidx t).2.2.1.2]
  congr 1
  · rw [Nat.mul_comm]
  · rw [Nat.zero_mul, Nat.zero_add]

/-- The gradient at the low-rank product, by token. -/
theorem arr1_16 : (dat1 (V3 m ρ) c).arrAt 16 cfg1.N = fun j : S32768x32.Idx => (argsD m c).GB (j 0).val (j 1).val := by
  refine (dat1 (V3 m ρ) c).arrAt_eq_of_covers 16 _ (by decide +kernel) fun t hf y => ?_
  blk_simp
  rw [after1_16]
  refine (gb_val m ρ c t ((flush1_16 t).mp hf) y).trans ?_
  rw [(oidx t).2.2.2.1, (oidx t).2.2.2.2]
  congr 1
  · rw [Nat.mul_comm]
  · rw [Nat.zero_mul, Nat.zero_add]

/-- The last point of the call. -/
abbrev tLast : Fin cfg1.N := ⟨447, by decide +kernel⟩

/-- The gradient of `lora_a`. -/
theorem arr1_11 : (dat1 (V3 m ρ) c).arrAt 11 cfg1.N = fun j : S32x1536.Idx => (argsD m c).DLA (j 0).val (j 1).val := by
  refine (dat1 (V3 m ρ) c).arrAt_eq_of_after_last 11 tLast (by decide +kernel) _ fun j => ?_
  blk_simp
  rw [after1_11]
  exact dla_val m ρ c j

/-- The transposed gradient of `lora_b`. -/
theorem arr1_12 : (dat1 (V3 m ρ) c).arrAt 12 cfg1.N = fun j : S32x8960.Idx => (argsD m c).DLBT (j 0).val (j 1).val := by
  refine (dat1 (V3 m ρ) c).arrAt_eq_of_after_last 12 tLast (by decide +kernel) _ fun j => ?_
  blk_simp
  rw [after1_12]
  exact dlbt_val m ρ c j

/-- The gradient of the magnitude. -/
theorem arr1_13 : (dat1 (V3 m ρ) c).arrAt 13 cfg1.N = fun j : S1x8960.Idx => (argsD m c).DM (j 1).val := by
  refine (dat1 (V3 m ρ) c).arrAt_eq_of_after_last 13 tLast (by decide +kernel) _ fun j => ?_
  blk_simp
  rw [after1_13]
  exact dm_val m ρ c j

end Cert.KernelIdeal.Body

end
-- ==== Proof.KernelIdeal.Exit.lean ====
module

public import proofs.«01_k».proof.Proof.KernelIdeal.Results

/-! # The kernel's results in its arguments

The host operations after the backward call read at an index: each of the seven results of the kernel. -/

@[expose] public section

set_option maxRecDepth 16384

noncomputable section

namespace Cert.KernelIdeal.Body

open Cert.KernelIdeal Cert.KernelIdeal.Gen
open Idealize.ShloMosaic Idealize.ShloMosaic.TcCoe
open Cert.Dora (Data)

variable (m : (ℓ : Loc nD τ sig) → Buf (Elt Ideal) ℓ) (ρ : Dev nD → PrngReg) (c : Dev nD)

/-! ## The reshapes after the call, at an index -/

theorem split_dx (X : Vec Ideal S32768x1536 .bf16) (h) (b : Fin 16) (s : Fin 2048) (i : Fin 1536) :
    shapeCast S16x2048x1536 X h (ix3 b s i) = X (ix2 ⟨b.val * 2048 + s.val, by omega⟩ i) := by pointwise
theorem split_z (X : Vec Ideal S32768x8960 .bf16) (h) (b : Fin 16) (s : Fin 2048) (o : Fin 8960) :
    shapeCast S16x2048x8960 X h (ix3 b s o) = X (ix2 ⟨b.val * 2048 + s.val, by omega⟩ o) := by pointwise
theorem split_r (X : Vec Ideal S32768x32 .bf16) (h) (b : Fin 16) (s : Fin 2048) (r : Fin 32) :
    shapeCast S16x2048x32 X h (ix3 b s r) = X (ix2 ⟨b.val * 2048 + s.val, by omega⟩ r) := by pointwise
theorem flat_dm (X : Vec Ideal S1x8960 .f32) (h) (o : Fin 8960) : shapeCast S8960 X h (ix1 o) = X (ix2 0 o) := by pointwise
theorem flip_dlb (X : FVec Ideal S32x8960 .f32) (h) (h') (o : Fin 8960) (r : Fin 32) :
    (truncf (F := Ideal) .bf16 (transpose S8960x32 [1, 0] X h) h') (ix2 o r) = X (ix2 r o) := by pointwise

/-! ## The results -/

theorem W5_v9 : W5 m ρ c main_v9 = shapeCast S16x2048x1536 (W4 m ρ c main_v8_0) shapeCasts_S32768x1536_S16x2048x1536 := by
  show StableHlo.after hostOps2 (W4 m ρ c) (Proc.devRef .tc main_v9) = _
  simp only [Gen.hostOps2]
  after_results_simp
  rfl
theorem W5_v11 : W5 m ρ c main_v11 = truncf (F := Ideal) .bf16 (transpose S8960x32 [1, 0] (W4 m ρ c main_v8_2) transposes_S32x8960_S8960x32_1_0) bitsLt_bf16_f32 := by
  show StableHlo.after hostOps2 (W4 m ρ c) (Proc.devRef .tc main_v11) = _
  simp only [Gen.hostOps2]
  after_results_simp
theorem W5_v12 : W5 m ρ c main_v12 = shapeCast S8960 (W4 m ρ c main_v8_3) shapeCasts_S1x8960_S8960 := by
  show StableHlo.after hostOps2 (W4 m ρ c) (Proc.devRef .tc main_v12) = _
  simp only [Gen.hostOps2]
  after_results_simp
  rfl
theorem W5_v13 : W5 m ρ c main_v13 = shapeCast S16x2048x8960 (W4 m ρ c main_v8_4) shapeCasts_S32768x8960_S16x2048x8960 := by
  show StableHlo.after hostOps2 (W4 m ρ c) (Proc.devRef .tc main_v13) = _
  simp only [Gen.hostOps2]
  after_results_simp
  rfl
theorem W5_v14 : W5 m ρ c main_v14 = shapeCast S16x2048x32 (W4 m ρ c main_v8_5) shapeCasts_S32768x32_S16x2048x32 := by
  show StableHlo.after hostOps2 (W4 m ρ c) (Proc.devRef .tc main_v14) = _
  simp only [Gen.hostOps2]
  after_results_simp
  rfl
theorem W5_v15 : W5 m ρ c main_v15 = shapeCast S16x2048x32 (W4 m ρ c main_v8_6) shapeCasts_S32768x32_S16x2048x32 := by
  show StableHlo.after hostOps2 (W4 m ρ c) (Proc.devRef .tc main_v15) = _
  simp only [Gen.hostOps2]
  after_results_simp
  rfl

/-- The gradient of the activations. -/
theorem res_dx : W5 m ρ c main_v9 = Cert.Dora.arrDX (argsD m c) := by
  rw [W5_v9, show W4 m ρ c main_v8_0 = _ from (W4_arr m ρ c 10).trans (arr1_10 m ρ c)]
  funext j
  rw [eq_ix3 j]
  exact split_dx _ _ (j 0) (j 1) (j 2)
/-- The gradient of `lora_a`. -/
theorem res_dla : W5 m ρ c main_v8_1 = Cert.Dora.arrDLA (argsD m c) :=
  (W5_of m ρ c main_v8_1 (by decide)).trans ((W4_arr m ρ c 11).trans (arr1_11 m ρ c))
/-- The gradient of `lora_b`. -/
theorem res_dlb : W5 m ρ c main_v11 = Cert.Dora.arrDLB (argsD m c) := by
  rw [W5_v11, show W4 m ρ c main_v8_2 = _ from (W4_arr m ρ c 12).trans (arr1_12 m ρ c)]
  funext j
  rw [eq_ix2 j]
  exact flip_dlb _ _ _ (j 0) (j 1)
/-- The gradient of the magnitude. -/
theorem res_dm : W5 m ρ c main_v12 = Cert.Dora.arrDM (argsD m c) := by
  rw [W5_v12, show W4 m ρ c main_v8_3 = _ from (W4_arr m ρ c 13).trans (arr1_13 m ρ c)]
  funext j
  rw [eq_ix1 j]
  exact flat_dm _ _ (j 0)
/-- The layer's output before the magnitude. -/
theorem res_z : W5 m ρ c main_v13 = Cert.Dora.arrZ (argsD m c) := by
  rw [W5_v13, show W4 m ρ c main_v8_4 = _ from (W4_arr m ρ c 14).trans (arr1_14 m ρ c)]
  funext j
  rw [eq_ix3 j]
  exact split_z _ _ (j 0) (j 1) (j 2)
/-- The tokens projected by `lora_a`. -/
theorem res_xa : W5 m ρ c main_v14 = Cert.Dora.arrXA (argsD m c) := by
  rw [W5_v14, show W4 m ρ c main_v8_5 = _ from (W4_arr m ρ c 15).trans (arr1_15 m ρ c)]
  funext j
  rw [eq_ix3 j]
  exact split_r _ _ (j 0) (j 1) (j 2)
/-- The gradient at the low-rank product. -/
theorem res_gb : W5 m ρ c main_v15 = Cert.Dora.arrGB (argsD m c) := by
  rw [W5_v15, show W4 m ρ c main_v8_6 = _ from (W4_arr m ρ c 16).trans (arr1_16 m ρ c)]
  funext j
  rw [eq_ix3 j]
  exact split_r _ _ (j 0) (j 1) (j 2)

end Cert.KernelIdeal.Body

end
-- ==== Proof.ReferenceIdeal.Terms.lean ====
module

public import proofs.«01_k».proof.Proof.Gen.ReferenceIdeal.Run
public import proofs.«01_k».proof.Proof.Spec
public import Idealize.ShloMosaic.Lib.Pointwise

/-! # The reference's operations read at an index

Each intermediate array and each result of the reference, from arrays that hold the arguments, as the same expression of
the arguments as the kernel's. -/

@[expose] public section

set_option maxRecDepth 16384

noncomputable section

namespace Cert.ReferenceIdeal.Body

open Cert.ReferenceIdeal Cert.ReferenceIdeal.Gen
open Idealize.ShloMosaic Idealize.ShloMosaic.TcCoe
open Cert.Dora (Data)
open Finset (range)

/-- Arrays that hold the arguments `D`: the weight codes and the gradient codes converted. -/
structure Holds (D : Data) (x : FVec Ideal S16x2048x1536 .bf16) (wf : FVec Ideal S8960x1536 .f32) (wb : FVec Ideal S8960x1536 .bf16)
    (ws : FVec Ideal S8960 .f32) (la : FVec Ideal S32x1536 .bf16) (lb : FVec Ideal S8960x32 .bf16) (mg : FVec Ideal S8960 .f32)
    (dyf : FVec Ideal S16x2048x8960 .f32) (dys : FVec Ideal S16x2048 .f32) : Prop where
  x : ∀ (b : Fin 16) (s : Fin 2048) (i : Fin 1536), x (ix3 b s i) = D.x (b.val * 2048 + s.val) i
  wf : ∀ (o : Fin 8960) (i : Fin 1536), wf (ix2 o i) = D.w o i
  wb : ∀ (o : Fin 8960) (i : Fin 1536), wb (ix2 o i) = D.w o i
  ws : ∀ o : Fin 8960, ws (ix1 o) = D.ws o
  la : ∀ (r : Fin 32) (i : Fin 1536), la (ix2 r i) = D.la r i
  lb : ∀ (o : Fin 8960) (r : Fin 32), lb (ix2 o r) = D.lb o r
  mg : ∀ o : Fin 8960, mg (ix1 o) = D.m o
  dyf : ∀ (b : Fin 16) (s : Fin 2048) (o : Fin 8960), dyf (ix3 b s o) = D.dy (b.val * 2048 + s.val) o
  dys : ∀ (b : Fin 16) (s : Fin 2048), dys (ix2 b s) = D.dys (b.val * 2048 + s.val)

section
variable (x : FVec Ideal S16x2048x1536 .bf16) (wf : FVec Ideal S8960x1536 .f32) (wb : FVec Ideal S8960x1536 .bf16)
    (ws : FVec Ideal S8960 .f32) (la : FVec Ideal S32x1536 .bf16) (lb : FVec Ideal S8960x32 .bf16) (mg : FVec Ideal S8960 .f32)
    (dyf : FVec Ideal S16x2048x8960 .f32) (dys : FVec Ideal S16x2048 .f32)

/-- The adapted weight. -/
abbrev tV : FVec Ideal S8960x1536 .f32 :=
  addf (mulf wf (broadcastInDim S8960x1536 ![0, 1] bcast_S8960x1_S8960x1536_0_1 (broadcastInDim S8960x1 ![0] bcast_S8960_S8960x1_0 ws)))
    (Host.dotGeneral dot_S8960x32_S32x1536_S8960x1536_1_0_0_1_n_n none lb la)
/-- The row norms, from the adapted weight. -/
abbrev tN (V : FVec Ideal S8960x1536 .f32) : FVec Ideal S8960 .f32 :=
  Host.sqrt (Host.reduceAdd (mulf V V) (constant S_ .f32 0x00000000#32) reducesTo_S8960x1536_S8960_d1 h_S_)
/-- The incoming gradient. -/
abbrev tDY : FVec Ideal S16x2048x8960 .f32 :=
  mulf dyf (broadcastInDim S16x2048x8960 ![0, 1, 2] bcast_S16x2048x1_S16x2048x8960_0_1_2 (broadcastInDim S16x2048x1 ![0, 1] bcast_S16x2048_S16x2048x1_0_1 dys))
/-- The gradient at the layer's output before the magnitude, from the incoming one and the norms. -/
abbrev tG (DY : FVec Ideal S16x2048x8960 .f32) (N : FVec Ideal S8960 .f32) : FVec Ideal S16x2048x8960 .bf16 :=
  truncf .bf16 (mulf DY (broadcastInDim S16x2048x8960 ![0, 1, 2] bcast_S1x1x8960_S16x2048x8960_0_1_2 (broadcastInDim S1x1x8960 ![2] bcast_S8960_S1x1x8960_2 (Host.divf mg N)))) bitsLt_bf16_f32
/-- The tokens projected by `lora_a`. -/
abbrev tXA : FVec Ideal S16x2048x32 .bf16 :=
  truncf .bf16 (Host.dotGeneral dot_S16x2048x1536_S32x1536_S16x2048x32_2_1_01_0_n_n none x la) bitsLt_bf16_f32
/-- The layer's output before the magnitude, from the projected tokens. -/
abbrev tZ (XA : FVec Ideal S16x2048x32 .bf16) : FVec Ideal S16x2048x8960 .f32 :=
  addf (mulf (broadcastInDim S16x2048x8960 ![0, 1, 2] bcast_S1x1x8960_S16x2048x8960_0_1_2 (broadcastInDim S1x1x8960 ![2] bcast_S8960_S1x1x8960_2 ws))
      (Host.dotGeneral dot_S16x2048x1536_S8960x1536_S16x2048x8960_2_1_01_0_n_n none x wb))
    (Host.dotGeneral dot_S16x2048x32_S8960x32_S16x2048x8960_2_1_01_0_n_n none XA lb)
/-- The gradient at the low-rank product. -/
abbrev tGB (G : FVec Ideal S16x2048x8960 .bf16) : FVec Ideal S16x2048x32 .bf16 :=
  truncf .bf16 (Host.dotGeneral dot_S16x2048x8960_S8960x32_S16x2048x32_2_0_01_1_n_n none G lb) bitsLt_bf16_f32
/-- The gradient of the activations. -/
abbrev tDX (G : FVec Ideal S16x2048x8960 .bf16) (GB : FVec Ideal S16x2048x32 .bf16) : FVec Ideal S16x2048x1536 .bf16 :=
  truncf .bf16 (addf (Host.dotGeneral dot_S16x2048x8960_S8960x1536_S16x2048x1536_2_0_01_1_n_n none
      (mulf G (broadcastInDim S16x2048x8960 ![0, 1, 2] bcast_S1x1x8960_S16x2048x8960_0_1_2 (broadcastInDim S1x1x8960 ![2] bcast_S8960_S1x1x8960_2 (truncf .bf16 ws bitsLt_bf16_f32)))) wb)
    (Host.dotGeneral dot_S16x2048x32_S32x1536_S16x2048x1536_2_0_01_1_n_n none GB la)) bitsLt_bf16_f32
/-- The gradient of `lora_a`. -/
abbrev tDLA (GB : FVec Ideal S16x2048x32 .bf16) : FVec Ideal S32x1536 .bf16 :=
  truncf .bf16 (Host.dotGeneral dot_S16x2048x32_S16x2048x1536_S32x1536_01_01_2_2_n_n none GB x) bitsLt_bf16_f32
/-- The gradient of `lora_b`. -/
abbrev tDLB (G : FVec Ideal S16x2048x8960 .bf16) (XA : FVec Ideal S16x2048x32 .bf16) : FVec Ideal S8960x32 .bf16 :=
  truncf .bf16 (Host.dotGeneral dot_S16x2048x8960_S16x2048x32_S8960x32_01_01_2_2_n_n none G XA) bitsLt_bf16_f32
/-- The gradient of the magnitude. -/
abbrev tDM (DY Z : FVec Ideal S16x2048x8960 .f32) (N : FVec Ideal S8960 .f32) : FVec Ideal S8960 .f32 :=
  Host.divf (Host.reduceAdd (mulf DY Z) (constant S_ .f32 0x00000000#32) reducesTo_S16x2048x8960_S8960_d0_1 h_S_) N
end

/-! ## At an index -/

/-- A sum over the two leading axes of a rank-3 array. -/
theorem sum_leading {n k l : ℕ} (h : (⟨3, ![n, k, l]⟩ : Shape).ReducesTo [0, 1] (⟨1, ![l]⟩ : Shape))
    (v : (⟨3, ![n, k, l]⟩ : Shape).Idx → EReal) (init : EReal) (o : Fin l) :
    Ideal.hostReduceAdd h v init (ix1 o) = init + ∑ b : Fin n, ∑ s : Fin k, v (ix3 b s o) := by
  refine congrArg (init + ·) ?_
  refine (Finset.sum_filter_eq_sum_of_fiber _ (fun q : Fin n × Fin k => ix3 q.1 q.2 o)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨q, rfl⟩
      funext b
      apply Fin.ext
      match b with
      | ⟨0, _⟩ => rfl
  · simp only [Fintype.sum_prod_type]

theorem tV_apply (wf : FVec Ideal S8960x1536 .f32) (ws : FVec Ideal S8960 .f32) (la : FVec Ideal S32x1536 .bf16) (lb : FVec Ideal S8960x32 .bf16)
    (o : Fin 8960) (i : Fin 1536) : tV wf ws la lb (ix2 o i) = wf (ix2 o i) * ws (ix1 o) + ∑ r : Fin 32, lb (ix2 o r) * la (ix2 r i) := by
  pointwise [tV]
theorem tN_apply (V : FVec Ideal S8960x1536 .f32) (o : Fin 8960) :
    tN V (ix1 o) = Ideal.sqrt (∑ i : Fin 1536, V (ix2 o i) * V (ix2 o i)) := by
  pointwise [tN]
theorem tDY_apply (dyf : FVec Ideal S16x2048x8960 .f32) (dys : FVec Ideal S16x2048 .f32) (b : Fin 16) (s : Fin 2048) (o : Fin 8960) :
    tDY dyf dys (ix3 b s o) = dyf (ix3 b s o) * dys (ix2 b s) := by
  pointwise [tDY]
theorem tG_apply (mg N : FVec Ideal S8960 .f32) (DY : FVec Ideal S16x2048x8960 .f32) (b : Fin 16) (s : Fin 2048) (o : Fin 8960) :
    tG mg DY N (ix3 b s o) = DY (ix3 b s o) * Ideal.div (mg (ix1 o)) (N (ix1 o)) := by
  pointwise [tG]
theorem tXA_apply (x : FVec Ideal S16x2048x1536 .bf16) (la : FVec Ideal S32x1536 .bf16) (b : Fin 16) (s : Fin 2048) (r : Fin 32) :
    tXA x la (ix3 b s r) = ∑ i : Fin 1536, x (ix3 b s i) * la (ix2 r i) := by
  pointwise [tXA]
theorem tZ_apply (x : FVec Ideal S16x2048x1536 .bf16) (wb : FVec Ideal S8960x1536 .bf16) (ws : FVec Ideal S8960 .f32) (lb : FVec Ideal S8960x32 .bf16)
    (XA : FVec Ideal S16x2048x32 .bf16) (b : Fin 16) (s : Fin 2048) (o : Fin 8960) :
    tZ x wb ws lb XA (ix3 b s o) = ws (ix1 o) * (∑ i : Fin 1536, x (ix3 b s i) * wb (ix2 o i)) + ∑ r : Fin 32, XA (ix3 b s r) * lb (ix2 o r) := by
  pointwise [tZ]
theorem tGB_apply (lb : FVec Ideal S8960x32 .bf16) (G : FVec Ideal S16x2048x8960 .bf16) (b : Fin 16) (s : Fin 2048) (r : Fin 32) :
    tGB lb G (ix3 b s r) = ∑ o : Fin 8960, G (ix3 b s o) * lb (ix2 o r) := by
  pointwise [tGB]
theorem tDX_apply (wb : FVec Ideal S8960x1536 .bf16) (ws : FVec Ideal S8960 .f32) (la : FVec Ideal S32x1536 .bf16)
    (G : FVec Ideal S16x2048x8960 .bf16) (GB : FVec Ideal S16x2048x32 .bf16) (b : Fin 16) (s : Fin 2048) (i : Fin 1536) :
    tDX wb ws la G GB (ix3 b s i) = (∑ o : Fin 8960, G (ix3 b s o) * ws (ix1 o) * wb (ix2 o i)) + ∑ r : Fin 32, GB (ix3 b s r) * la (ix2 r i) := by
  pointwise [tDX]
theorem tDLA_apply (x : FVec Ideal S16x2048x1536 .bf16) (GB : FVec Ideal S16x2048x32 .bf16) (r : Fin 32) (i : Fin 1536) :
    tDLA x GB (ix2 r i) = ∑ b : Fin 16, ∑ s : Fin 2048, GB (ix3 b s r) * x (ix3 b s i) := by
  pointwise [tDLA]
theorem tDLB_apply (G : FVec Ideal S16x2048x8960 .bf16) (XA : FVec Ideal S16x2048x32 .bf16) (o : Fin 8960) (r : Fin 32) :
    tDLB G XA (ix2 o r) = ∑ b : Fin 16, ∑ s : Fin 2048, G (ix3 b s o) * XA (ix3 b s r) := by
  pointwise [tDLB]
theorem tDM_apply (DY Z : FVec Ideal S16x2048x8960 .f32) (N : FVec Ideal S8960 .f32) (o : Fin 8960) :
    tDM DY Z N (ix1 o) = Ideal.div (∑ b : Fin 16, ∑ s : Fin 2048, DY (ix3 b s o) * Z (ix3 b s o)) (N (ix1 o)) := by
  pointwise [tDM]
  rw [sum_leading, zero_add]
  rfl

/-! Arrays are equal when they are at every index. -/

theorem funext1 {n : ℕ} {α : Type} {f g : (⟨1, ![n]⟩ : Shape).Idx → α} (h : ∀ a : Fin n, f (ix1 a) = g (ix1 a)) : f = g :=
  funext fun j => by rw [eq_ix1 j]; exact h (j 0)
theorem funext2 {n k : ℕ} {α : Type} {f g : (⟨2, ![n, k]⟩ : Shape).Idx → α} (h : ∀ (a : Fin n) (b : Fin k), f (ix2 a b) = g (ix2 a b)) : f = g :=
  funext fun j => by rw [eq_ix2 j]; exact h (j 0) (j 1)
theorem funext3 {n k l : ℕ} {α : Type} {f g : (⟨3, ![n, k, l]⟩ : Shape).Idx → α}
    (h : ∀ (a : Fin n) (b : Fin k) (d : Fin l), f (ix3 a b d) = g (ix3 a b d)) : f = g :=
  funext fun j => by rw [eq_ix3 j]; exact h (j 0) (j 1) (j 2)

/-! ## In the arguments -/

section
variable {D : Data} {x : FVec Ideal S16x2048x1536 .bf16} {wf : FVec Ideal S8960x1536 .f32} {wb : FVec Ideal S8960x1536 .bf16}
    {ws : FVec Ideal S8960 .f32} {la : FVec Ideal S32x1536 .bf16} {lb : FVec Ideal S8960x32 .bf16} {mg : FVec Ideal S8960 .f32}
    {dyf : FVec Ideal S16x2048x8960 .f32} {dys : FVec Ideal S16x2048 .f32}
    (H : Holds D x wf wb ws la lb mg dyf dys)
include H

theorem tN_val (o : Fin 8960) : tN (tV wf ws la lb) (ix1 o) = D.N o := by
  have hV : ∀ i : Fin 1536, tV wf ws la lb (ix2 o i) = D.V o i := fun i => by
    rw [tV_apply, Data.V, Finset.sum_range, H.wf, H.ws]
    simp only [H.lb, H.la]
  rw [tN_apply, Data.N, Finset.sum_range]
  simp only [hV]

theorem tDY_val (b : Fin 16) (s : Fin 2048) (o : Fin 8960) : tDY dyf dys (ix3 b s o) = D.DY (b.val * 2048 + s.val) o := by
  rw [tDY_apply, H.dyf, H.dys, Data.DY]

theorem tG_val (b : Fin 16) (s : Fin 2048) (o : Fin 8960) :
    tG mg (tDY dyf dys) (tN (tV wf ws la lb)) (ix3 b s o) = D.G (b.val * 2048 + s.val) o := by
  rw [tG_apply, tDY_val H, tN_val H, H.mg, Data.DY, Data.G, Data.C]

theorem tXA_val (b : Fin 16) (s : Fin 2048) (r : Fin 32) : tXA x la (ix3 b s r) = D.XA (b.val * 2048 + s.val) r := by
  rw [tXA_apply, Data.XA, Finset.sum_range]
  simp only [H.x, H.la]

theorem tZ_val (b : Fin 16) (s : Fin 2048) (o : Fin 8960) : tZ x wb ws lb (tXA x la) (ix3 b s o) = D.Z (b.val * 2048 + s.val) o := by
  rw [tZ_apply, Data.Z, Finset.sum_range, Finset.sum_range, H.ws]
  simp only [H.x, H.wb, H.lb, tXA_val H]

theorem tGB_val (b : Fin 16) (s : Fin 2048) (r : Fin 32) :
    tGB lb (tG mg (tDY dyf dys) (tN (tV wf ws la lb))) (ix3 b s r) = D.GB (b.val * 2048 + s.val) r := by
  rw [tGB_apply, Data.GB, Finset.sum_range]
  refine Finset.sum_congr rfl fun o _ => ?_
  rw [tG_val H, H.lb, mul_comm]

/-- The reference's gradient of the activations. -/
theorem tDX_val : tDX wb ws la (tG mg (tDY dyf dys) (tN (tV wf ws la lb))) (tGB lb (tG mg (tDY dyf dys) (tN (tV wf ws la lb)))) = Cert.Dora.arrDX D := by
  refine funext3 fun b s i => ?_
  rw [tDX_apply]
  show _ = D.DX (b.val * 2048 + s.val) i
  rw [Data.DX, Finset.sum_range, Finset.sum_range]
  refine congrArg₂ (· + ·) (Finset.sum_congr rfl fun o _ => ?_) (Finset.sum_congr rfl fun r _ => ?_)
  · rw [tG_val H, H.ws, H.wb]
  · rw [tGB_val H, H.la]

/-- The reference's gradient of `lora_a`. -/
theorem tDLA_val : tDLA x (tGB lb (tG mg (tDY dyf dys) (tN (tV wf ws la lb)))) = Cert.Dora.arrDLA D := by
  refine funext2 fun r i => ?_
  rw [tDLA_apply]
  show _ = D.DLA r i
  rw [Data.DLA, ← Cert.Dora.sum_tokens]
  refine Finset.sum_congr rfl fun b _ => Finset.sum_congr rfl fun s _ => ?_
  rw [tGB_val H, H.x]

/-- The reference's gradient of `lora_b`. -/
theorem tDLB_val : tDLB (tG mg (tDY dyf dys) (tN (tV wf ws la lb))) (tXA x la) = Cert.Dora.arrDLB D := by
  refine funext2 fun o r => ?_
  rw [tDLB_apply]
  show _ = D.DLBT r o
  rw [Data.DLBT, ← Cert.Dora.sum_tokens]
  refine Finset.sum_congr rfl fun b _ => Finset.sum_congr rfl fun s _ => ?_
  rw [tG_val H, tXA_val H, mul_comm]

/-- The reference's gradient of the magnitude. -/
theorem tDM_val : tDM (tDY dyf dys) (tZ x wb ws lb (tXA x la)) (tN (tV wf ws la lb)) = Cert.Dora.arrDM D := by
  refine funext1 fun o => ?_
  rw [tDM_apply, tN_val H]
  show _ = D.DM o
  rw [Data.DM, Data.DMS, ← Cert.Dora.sum_tokens]
  refine congrArg (Ideal.div · _) (Finset.sum_congr rfl fun b _ => Finset.sum_congr rfl fun s _ => ?_)
  rw [tDY_val H, tZ_val H]

/-- The reference's output before the magnitude, rounded. -/
theorem tZb_val : (truncf .bf16 (tZ x wb ws lb (tXA x la)) bitsLt_bf16_f32 : FVec Ideal S16x2048x8960 .bf16) = Cert.Dora.arrZ D :=
  funext3 fun b s o => tZ_val H b s o

/-- The reference's tokens projected by `lora_a`. -/
theorem tXA_arr : tXA x la = Cert.Dora.arrXA D := funext3 fun b s r => tXA_val H b s r

/-- The reference's gradient at the low-rank product. -/
theorem tGB_arr : tGB lb (tG mg (tDY dyf dys) (tN (tV wf ws la lb))) = Cert.Dora.arrGB D := funext3 fun b s r => tGB_val H b s r

end

end Cert.ReferenceIdeal.Body

end
-- ==== Proof.ReferenceIdeal.Results.lean ====
module

public import proofs.«01_k».proof.Proof.ReferenceIdeal.Terms
public import proofs.«01_k».proof.Proof.Gen.ReferenceIdeal.Points
public import Idealize.ShloMosaic.Lib.Pipeline.ValueKit

/-! # The reference's results in its arguments

The reference's conversions of the codes are one kernel region of a single grid point; its three arrays are the arguments
they convert. Then each result as an expression of the arguments. -/

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.SL.Sem
open Idealize.ShloMosaic.Pipeline (Dat)
open Cert.Dora (Data)

variable (m : (ℓ : Loc nD τ sig) → Buf (Elt Ideal) ℓ) (c : Dev nD)

/-- The argument arrays of core `c` as functions of their indices. -/
def argsD : Data :=
  Cert.Dora.ofArgs (fun b s i => (m ((c : Thread nD τ).loc main_arg0) : Vec Ideal S16x2048x1536 .bf16) (ix3 b s i))
    (fun o i => (m ((c : Thread nD τ).loc main_arg1) : Vec Ideal S8960x1536 .fp8e4m3) (ix2 o i))
    (fun o => (m ((c : Thread nD τ).loc main_arg2) : Vec Ideal S8960 .f32) (ix1 o))
    (fun r i => (m ((c : Thread nD τ).loc main_arg3) : Vec Ideal S32x1536 .bf16) (ix2 r i))
    (fun o r => (m ((c : Thread nD τ).loc main_arg4) : Vec Ideal S8960x32 .bf16) (ix2 o r))
    (fun o => (m ((c : Thread nD τ).loc main_arg5) : Vec Ideal S8960 .f32) (ix1 o))
    (fun b s o => (m ((c : Thread nD τ).loc main_arg6) : Vec Ideal S16x2048x8960 .fp8e5m2) (ix3 b s o))
    (fun b s => (m ((c : Thread nD τ).loc main_arg7) : Vec Ideal S16x2048 .f32) (ix2 b s))

/-! ## The conversions -/

/-- Every window's block index at the one point. -/
theorem idx : ∀ t : Fin cfg0.N, win0_0.index t = ![0, 0] ∧ win0_1.index t = ![0, 0, 0] :=
  (by decide +kernel : ∀ t : Fin grid0.N, _)

/-- The weight codes are read whole. -/
theorem blk_w : iblk m c 0 t0_0 = m ((c : Thread nD τ).loc main_arg1) := by
  blk_ext! [iblk, V, (idx t0_0).1]
/-- The gradient codes are read whole. -/
theorem blk_dy : iblk m c 1 t0_0 = m ((c : Thread nD τ).loc main_arg6) := by
  blk_ext! [iblk, V, (idx t0_0).2]

theorem conv1 (X : Vec Ideal S8960x1536 .fp8e4m3) (j : S8960x1536.Idx) : k0_pay1 (F := Ideal) X j = X j := by unfold k0_pay1; rfl
theorem conv2 (X : Vec Ideal S8960x1536 .fp8e4m3) (j : S8960x1536.Idx) : k0_pay2 (F := Ideal) X j = X j := by unfold k0_pay2; rfl
theorem conv3 (X : Vec Ideal S16x2048x8960 .fp8e5m2) (j : S16x2048x8960.Idx) : k0_pay3 (F := Ideal) X j = X j := by unfold k0_pay3; rfl

/-- The weight codes converted to f32. -/
theorem reg0 : reg_main_v0_0 m c = m ((c : Thread nD τ).loc main_arg1) := by
  unfold reg_main_v0_0
  refine (dats m 0 c).arrAt_eq_of_after_last 2 t0_0 (by decide +kernel) _ fun j => ?_
  blk_simp
  rw [after0_2]
  unfold out0_2
  frame_out
  rw [blk_w]
  exact conv1 _ j
/-- The weight codes converted to bf16. -/
theorem reg1 : reg_main_v0_1 m c = m ((c : Thread nD τ).loc main_arg1) := by
  unfold reg_main_v0_1
  refine (dats m 0 c).arrAt_eq_of_after_last 3 t0_0 (by decide +kernel) _ fun j => ?_
  blk_simp
  rw [after0_3]
  unfold out0_3
  frame_out
  rw [blk_w]
  exact conv2 _ j
/-- The gradient codes converted to f32. -/
theorem reg2 : reg_main_v0_2 m c = m ((c : Thread nD τ).loc main_arg6) := by
  unfold reg_main_v0_2
  refine (dats m 0 c).arrAt_eq_of_after_last 4 t0_0 (by decide +kernel) _ fun j => ?_
  blk_simp
  rw [after0_4]
  unfold out0_4
  frame_out
  rw [blk_dy]
  exact conv3 _ j

/-! ## The results -/

theorem token_lt (b : Fin 16) (s : Fin 2048) : b.val * 2048 + s.val < 32768 := by omega

/-- The arrays the reference computes from hold the arguments. -/
theorem holds : Holds (argsD m c) (m ((c : Thread nD τ).loc main_arg0)) (reg_main_v0_0 m c) (reg_main_v0_1 m c)
    (m ((c : Thread nD τ).loc main_arg2)) (m ((c : Thread nD τ).loc main_arg3)) (m ((c : Thread nD τ).loc main_arg4))
    (m ((c : Thread nD τ).loc main_arg5)) (reg_main_v0_2 m c) (m ((c : Thread nD τ).loc main_arg7)) where
  x b s i := by
    simp only [argsD, Cert.Dora.ofArgs]
    rw [Cert.Dora.ext2_mk _ _ _ (token_lt b s) i.isLt]
    exact congrArg₂ (fun (p : Fin 16) (q : Fin 2048) => (m ((c : Thread nD τ).loc main_arg0) : Vec Ideal S16x2048x1536 .bf16) (ix3 p q i))
      (Fin.ext (by dsimp only; omega)) (Fin.ext (by dsimp only; omega))
  wf o i := by
    rw [reg0]
    simp only [argsD, Cert.Dora.ofArgs]
    exact (Cert.Dora.ext2_val (fun (o : Fin 8960) (i : Fin 1536) => (m ((c : Thread nD τ).loc main_arg1) : Vec Ideal S8960x1536 .fp8e4m3) (ix2 o i)) o i).symm
  wb o i := by
    rw [reg1]
    simp only [argsD, Cert.Dora.ofArgs]
    exact (Cert.Dora.ext2_val (fun (o : Fin 8960) (i : Fin 1536) => (m ((c : Thread nD τ).loc main_arg1) : Vec Ideal S8960x1536 .fp8e4m3) (ix2 o i)) o i).symm
  ws o := by
    simp only [argsD, Cert.Dora.ofArgs]
    exact (Cert.Dora.ext1_val (fun o : Fin 8960 => (m ((c : Thread nD τ).loc main_arg2) : Vec Ideal S8960 .f32) (ix1 o)) o).symm
  la r i := by
    simp only [argsD, Cert.Dora.ofArgs]
    exact (Cert.Dora.ext2_val (fun (r : Fin 32) (i : Fin 1536) => (m ((c : Thread nD τ).loc main_arg3) : Vec Ideal S32x1536 .bf16) (ix2 r i)) r i).symm
  lb o r := by
    simp only [argsD, Cert.Dora.ofArgs]
    exact (Cert.Dora.ext2_val (fun (o : Fin 8960) (r : Fin 32) => (m ((c : Thread nD τ).loc main_arg4) : Vec Ideal S8960x32 .bf16) (ix2 o r)) o r).symm
  mg o := by
    simp only [argsD, Cert.Dora.ofArgs]
    exact (Cert.Dora.ext1_val (fun o : Fin 8960 => (m ((c : Thread nD τ).loc main_arg5) : Vec Ideal S8960 .f32) (ix1 o)) o).symm
  dyf b s o := by
    rw [reg2]
    simp only [argsD, Cert.Dora.ofArgs]
    rw [Cert.Dora.ext2_mk _ _ _ (token_lt b s) o.isLt]
    exact congrArg₂ (fun (p : Fin 16) (q : Fin 2048) => (m ((c : Thread nD τ).loc main_arg6) : Vec Ideal S16x2048x8960 .fp8e5m2) (ix3 p q o))
      (Fin.ext (by dsimp only; omega)) (Fin.ext (by dsimp only; omega))
  dys b s := by
    simp only [argsD, Cert.Dora.ofArgs]
    rw [Cert.Dora.ext1_mk _ _ (token_lt b s)]
    exact congrArg₂ (fun (p : Fin 16) (q : Fin 2048) => (m ((c : Thread nD τ).loc main_arg7) : Vec Ideal S16x2048 .f32) (ix2 p q))
      (Fin.ext (by dsimp only; omega)) (Fin.ext (by dsimp only; omega))

/-- Every execution of the reference ends with its seven results at the specification's arrays, its arguments unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v37) = Cert.Dora.arrDX (argsD m c)
      ∧ r.2.mem ((c.tc : Thread nD τ).loc main_v39) = Cert.Dora.arrDLA (argsD m c)
      ∧ r.2.mem ((c.tc : Thread nD τ).loc main_v41) = Cert.Dora.arrDLB (argsD m c)
      ∧ r.2.mem ((c.tc : Thread nD τ).loc main_v23) = Cert.Dora.arrDM (argsD m c)
      ∧ r.2.mem ((c.tc : Thread nD τ).loc main_v42) = Cert.Dora.arrZ (argsD m c)
      ∧ r.2.mem ((c.tc : Thread nD τ).loc main_v11) = Cert.Dora.arrXA (argsD m c)
      ∧ r.2.mem ((c.tc : Thread nD τ).loc main_v29) = Cert.Dora.arrGB (argsD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, ha⟩ := h c
    have H := holds m c
    exact ⟨h0.trans (tDX_val H), h1.trans (tDLA_val H), h2.trans (tDLB_val H), h3.trans (tDM_val H), h4.trans (tZb_val H),
      h5.trans (tXA_arr H), h6.trans (tGB_arr H), ha⟩) (Value.run m ρ)

end Cert.ReferenceIdeal.Body

end
-- ==== Proof.Algebraic.lean ====
module

public import proofs.«01_k».proof.Defs
public import proofs.«01_k».proof.Proof.KernelIdeal.Compose
public import proofs.«01_k».proof.Proof.KernelIdeal.Exit
public import proofs.«01_k».proof.Proof.ReferenceIdeal.Results

/-! # The kernel and the reference compute the same arrays

Both programs end with their seven results at the arrays of the specification (`Spec.lean`), each in its own arguments;
the arguments agree, so the results do. -/

@[expose] public section

set_option maxRecDepth 16384

noncomputable section

namespace Cert.KernelIdeal.Body

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every execution of the kernel ends with its seven results at the specification's arrays, its arguments unchanged. -/
theorem run_spec : θ_run defs (onTc (τ := τ) (main (F := Ideal))) ⟨m, fun _ => 0, ρ⟩ (fun r => ∀ c : Dev nD,
      r.2.mem ((c.tc : Thread nD τ).loc main_v9) = Cert.Dora.arrDX (argsD m c)
      ∧ r.2.mem ((c.tc : Thread nD τ).loc main_v8_1) = Cert.Dora.arrDLA (argsD m c)
      ∧ r.2.mem ((c.tc : Thread nD τ).loc main_v11) = Cert.Dora.arrDLB (argsD m c)
      ∧ r.2.mem ((c.tc : Thread nD τ).loc main_v12) = Cert.Dora.arrDM (argsD m c)
      ∧ r.2.mem ((c.tc : Thread nD τ).loc main_v13) = Cert.Dora.arrZ (argsD m c)
      ∧ r.2.mem ((c.tc : Thread nD τ).loc main_v14) = Cert.Dora.arrXA (argsD m c)
      ∧ r.2.mem ((c.tc : Thread nD τ).loc main_v15) = Cert.Dora.arrGB (argsD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h.1 c _ (mem_uc main_v9 (by decide))).trans (res_dx m ρ c),
     (h.1 c _ (mem_uc main_v8_1 (by decide))).trans (res_dla m ρ c),
     (h.1 c _ (mem_uc main_v11 (by decide))).trans (res_dlb m ρ c),
     (h.1 c _ (mem_uc main_v12 (by decide))).trans (res_dm m ρ c),
     (h.1 c _ (mem_uc main_v13 (by decide))).trans (res_z m ρ c),
     (h.1 c _ (mem_uc main_v14 (by decide))).trans (res_xa m ρ c),
     (h.1 c _ (mem_uc main_v15 (by decide))).trans (res_gb m ρ c),
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c),
     (h.1 c _ (mem_uc main_arg7 (by decide))).trans (W5_main_arg7 m ρ c)⟩) (run_all m ρ)

end Cert.KernelIdeal.Body

namespace Cert.Proof

open Idealize.ShloMosaic Idealize.SL.Sem

/-- Arguments that agree are the same data to both programs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Body.argsD m' c = Cert.KernelIdeal.Body.argsD m c := by
  obtain ⟨h0, h1, h2, h3, h4, h5, h6, h7⟩ := h
  unfold Cert.ReferenceIdeal.Body.argsD Cert.KernelIdeal.Body.argsD
  rw [h0, h1, h2, h3, h4, h5, h6, h7]

/-- The algebraic claim: from agreeing arguments all seven results of the kernel equal the reference's as extended reals. -/
theorem algebraic : Cert.algebraic_KernelIdeal_ReferenceIdeal := by
  intro m g m' g' _ hargs
  refine ⟨fun c => Cert.Dora.arrDX (Cert.KernelIdeal.Body.argsD m c), fun c => Cert.Dora.arrDLA (Cert.KernelIdeal.Body.argsD m c),
    fun c => Cert.Dora.arrDLB (Cert.KernelIdeal.Body.argsD m c), fun c => Cert.Dora.arrDM (Cert.KernelIdeal.Body.argsD m c),
    fun c => Cert.Dora.arrZ (Cert.KernelIdeal.Body.argsD m c), fun c => Cert.Dora.arrXA (Cert.KernelIdeal.Body.argsD m c),
    fun c => Cert.Dora.arrGB (Cert.KernelIdeal.Body.argsD m c), Cert.KernelIdeal.Body.run_spec m g, ?_⟩
  refine (θ_run Cert.ReferenceIdeal.defs _ _).mono (fun r h c => ?_) (Cert.ReferenceIdeal.Body.run_spec m' g')
  have e := args_eq m m' c (hargs c)
  obtain ⟨h0, h1, h2, h3, h4, h5, h6, ha⟩ := h c
  rw [e] at h0 h1 h2 h3 h4 h5 h6
  exact ⟨h0, h1, h2, h3, h4, h5, h6, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Kernel.Compose
public import proofs.«01_k».proof.Proof.KernelIdeal.Compose
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Gen.frame m ρ, trivial, algebraic⟩

end Cert.Proof

end
